-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonzero_scale [hPre_nonzero_scale : Cert.Pre_nonzero_scale.Facts] (m : (ℓ : Loc Cert.KernelIdeal.nD Cert.KernelIdeal.τ Cert.KernelIdeal.sig) → Buf (Elt Ideal) ℓ) : Prop :=
  ∀ c : Dev Cert.KernelIdeal.nD,
    (Cert.Pre_nonzero_scale.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonzero_scale [hPre_nonzero_scale : Cert.Pre_nonzero_scale.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonzero_scale.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_nonzero_scale [hKernelIdeal : Cert.KernelIdeal.Facts] [hPre_nonzero_scale : Cert.Pre_nonzero_scale.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonzero_scale m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_nonzero_scale [hReferenceIdeal : Cert.ReferenceIdeal.Facts] [hPre_nonzero_scale : Cert.Pre_nonzero_scale.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonzero_scale m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_nonzero_scale [hKernelIdeal : Cert.KernelIdeal.Facts] [hReferenceIdeal : Cert.ReferenceIdeal.Facts] [hPre_nonzero_scale : Cert.Pre_nonzero_scale.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonzero_scale m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_nonzero_scale : Cert.Pre_nonzero_scale.Facts),
    quiescent_Kernel (hKernel := hKernel)
    ∧ quiescent_KernelIdeal (hKernelIdeal := hKernelIdeal)
    ∧ quiescent_KernelIdeal_pre_nonzero_scale (hKernelIdeal := hKernelIdeal) (hPre_nonzero_scale := hPre_nonzero_scale)
    ∧ quiescent_ReferenceIdeal (hReferenceIdeal := hReferenceIdeal)
    ∧ quiescent_ReferenceIdeal_pre_nonzero_scale (hReferenceIdeal := hReferenceIdeal) (hPre_nonzero_scale := hPre_nonzero_scale)
    ∧ preserves_Kernel_KernelIdeal
    ∧ algebraic_KernelIdeal_ReferenceIdeal_pre_nonzero_scale (hKernelIdeal := hKernelIdeal) (hReferenceIdeal := hReferenceIdeal) (hPre_nonzero_scale := hPre_nonzero_scale)
-- ==== Pre_nonzero_scale.lean ====
abbrev S2x8192x4096 : Shape := ⟨3, ![2, 8192, 4096]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2x8192x4096 .f32) (main_arg1 : FVec F S1 .f32) (main_arg2 : FVec F S1 .f32) : IVec S1 1 :=
  let main_cst : FVec F S_ .f32 := constant S_ .f32 0x00000000#32
  let main_v0 : FVec F S1 .f32 := broadcastInDim S1 ![] bcast_S_S1 main_cst
  let main_v1 : IVec S1 1 := cmpf .une main_arg1 main_v0
  main_v1
-- ==== Kernel.lean ====
abbrev S2x8192x4096 : Shape := ⟨3, ![2, 8192, 4096]⟩
abbrev S1 : Shape := ⟨1, ![1]⟩
abbrev S16384x4096 : Shape := ⟨2, ![16384, 4096]⟩
abbrev S7168x4096 : Shape := ⟨2, ![7168, 4096]⟩
abbrev S16 : Shape := ⟨1, ![16]⟩
abbrev S4x4096 : Shape := ⟨2, ![4, 4096]⟩
abbrev S_ : Shape := ⟨0, ![]⟩
abbrev S1x16 : Shape := ⟨2, ![1, 16]⟩
abbrev S9216x4096 : Shape := ⟨2, ![9216, 4096]⟩
abbrev S512x4096 : Shape := ⟨2, ![512, 4096]⟩

abbrev nBuf : Table → Nat
  | .hbm => 8
  | .local .tc .vmem => 4
  | .local .tc .smem => 2
  | .local .scVector .vmem => 6
  | _ => 0

abbrev bufTy : (tb : Table) → Fin (nBuf tb) → BufTy
  | .hbm, ⟨0, _⟩ => ⟨S2x8192x4096, .f32⟩
  | .hbm, ⟨1, _⟩ => ⟨S1, .f32⟩
  | .hbm, ⟨2, _⟩ => ⟨S1, .f32⟩
  | .hbm, ⟨3, _⟩ => ⟨S16384x4096, .f32⟩
  | .hbm, ⟨4, _⟩ => ⟨S7168x4096, .f32⟩
  | .hbm, ⟨5, _⟩ => ⟨S9216x4096, .f32⟩
  | .hbm, ⟨6, _⟩ => ⟨S16384x4096, .f32⟩
  | .hbm, ⟨7, _⟩ => ⟨S2x8192x4096, .f32⟩
  | .local .tc .vmem, ⟨0, _⟩ => ⟨S512x4096, .f32⟩
  | .local .tc .vmem, ⟨1, _⟩ => ⟨S512x4096, .f32⟩
  | .local .tc .vmem, ⟨2, _⟩ => ⟨S512x4096, .f32⟩
  | .local .tc .vmem, ⟨3, _⟩ => ⟨S512x4096, .f32⟩
  | .local .tc .smem, ⟨0, _⟩ => ⟨S1, .f32⟩
  | .local .tc .smem, ⟨1, _⟩ => ⟨S1, .f32⟩
  | .local .scVector .vmem, ⟨0, _⟩ => ⟨S16, .f32⟩
  | .local .scVector .vmem, ⟨1, _⟩ => ⟨S16, .f32⟩
  | .local .scVector .vmem, ⟨2, _⟩ => ⟨S4x4096, .f32⟩
  | .local .scVector .vmem, ⟨3, _⟩ => ⟨S4x4096, .f32⟩
  | .local .scVector .vmem, ⟨4, _⟩ => ⟨S4x4096, .f32⟩
  | .local .scVector .vmem, ⟨5, _⟩ => ⟨S4x4096, .f32⟩
  | _, _ => ⟨S2x8192x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v0_scv : Ref sig .scVector := ⟨.hbm, 3, rfl⟩
abbrev main_arg1_scv : Ref sig .scVector := ⟨.hbm, 1, rfl⟩
abbrev main_arg2_scv : Ref sig .scVector := ⟨.hbm, 2, rfl⟩
abbrev main_v1_scv : Ref sig .scVector := ⟨.hbm, 4, rfl⟩
abbrev cc1_stg2_0 : Ref sig .tc := ⟨.vmem, 0, rfl⟩
abbrev cc1_stg2_1 : Ref sig .tc := ⟨.vmem, 1, rfl⟩
abbrev cc1_stg3_0 : Ref sig .tc := ⟨.vmem, 2, rfl⟩
abbrev cc1_stg3_1 : Ref sig .tc := ⟨.vmem, 3, rfl⟩
abbrev cc1_stg0_0 : Ref sig .tc := ⟨.smem, 0, rfl⟩
abbrev cc1_stg1_0 : Ref sig .tc := ⟨.smem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let c9216_i32 : BitVec 32 := 9216#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32 : BitVec 32 := 224#32
  let v2 : BitVec 32 := Scalar.muli v1 c224_i32
  let v3 : BitVec 32 := Scalar.addi c9216_i32 v2
  let v17 : BitVec 32 := Scalar.addi v3 c0_i32
  let c0_i32_2 : BitVec 32 := 0#32
  ![v17.toNat, 0]
def k0_off1_at (r : Fin 6) : BitVec 32 :=
  if r.val < 3 then
    if r.val < 1 then
      0#32
    else
      if r.val < 2 then
        4#32
      else
        8#32
  else
    if r.val < 4 then
      12#32
    else
      if r.val < 5 then
        216#32
      else
        220#32
@[reducible] def k0_t1_loop : Scf.Loop 32 :=
  let c0_i32_10 : BitVec 32 := 0#32
  let c32_i32 : BitVec 32 := 32#32
  let v26 : BitVec 32 := Scalar.addi c0_i32_10 c32_i32
  let c1_i32 : BitVec 32 := 1#32
  ⟨c0_i32_10, v26, c1_i32⟩
def k0_off2 (k0_t1 : Fin k0_t1_loop.trips) (c0_i32_124 : BitVec 32) : Fin 2 → Nat :=
  let c0_i32_125 : BitVec 32 := 0#32
  let v101 : Index := Scalar.indexCast c0_i32_125
  let c0_i32_10 : BitVec 32 := 0#32
  let c1_i32 : BitVec 32 := 1#32
  let arg16 : BitVec 32 := Scf.iv c0_i32_10 c1_i32 k0_t1
  let c128_i32 : BitVec 32 := 128#32
  let v99 : BitVec 32 := Scalar.muli arg16 c128_i32
  let v100 : BitVec 32 := Scalar.addi v99 c0_i32_124
  let v102 : Index := Scalar.indexCast v100
  ![0, v102.toNat]
@[reducible] def k0_t2_loop : Scf.Loop 32 :=
  let c0_i32_13 : BitVec 32 := 0#32
  let c32_i32_14 : BitVec 32 := 32#32
  let v28 : BitVec 32 := Scalar.addi c0_i32_13 c32_i32_14
  let c1_i32_15 : BitVec 32 := 1#32
  ⟨c0_i32_13, v28, c1_i32_15⟩
def k0_off3 (k0_t2 : Fin k0_t2_loop.trips) (c0_i32_124 : BitVec 32) : Fin 2 → Nat :=
  let c1_i32_125 : BitVec 32 := 1#32
  let v101 : Index := Scalar.indexCast c1_i32_125
  let c0_i32_13 : BitVec 32 := 0#32
  let c1_i32_15 : BitVec 32 := 1#32
  let arg16 : BitVec 32 := Scf.iv c0_i32_13 c1_i32_15 k0_t2
  let c128_i32 : BitVec 32 := 128#32
  let v99 : BitVec 32 := Scalar.muli arg16 c128_i32
  let v100 : BitVec 32 := Scalar.addi v99 c0_i32_124
  let v102 : Index := Scalar.indexCast v100
  ![1, v102.toNat]
@[reducible] def k0_t3_loop : Scf.Loop 32 :=
  let c0_i32_18 : BitVec 32 := 0#32
  let c32_i32_19 : BitVec 32 := 32#32
  let v30 : BitVec 32 := Scalar.addi c0_i32_18 c32_i32_19
  let c1_i32_20 : BitVec 32 := 1#32
  ⟨c0_i32_18, v30, c1_i32_20⟩
def k0_off4 (k0_t3 : Fin k0_t3_loop.trips) (c0_i32_124 : BitVec 32) : Fin 2 → Nat :=
  let c2_i32_125 : BitVec 32 := 2#32
  let v101 : Index := Scalar.indexCast c2_i32_125
  let c0_i32_18 : BitVec 32 := 0#32
  let c1_i32_20 : BitVec 32 := 1#32
  let arg16 : BitVec 32 := Scf.iv c0_i32_18 c1_i32_20 k0_t3
  let c128_i32 : BitVec 32 := 128#32
  let v99 : BitVec 32 := Scalar.muli arg16 c128_i32
  let v100 : BitVec 32 := Scalar.addi v99 c0_i32_124
  let v102 : Index := Scalar.indexCast v100
  ![2, v102.toNat]
@[reducible] def k0_t4_loop : Scf.Loop 32 :=
  let c0_i32_23 : BitVec 32 := 0#32
  let c32_i32_24 : BitVec 32 := 32#32
  let v32 : BitVec 32 := Scalar.addi c0_i32_23 c32_i32_24
  let c1_i32_25 : BitVec 32 := 1#32
  ⟨c0_i32_23, v32, c1_i32_25⟩
def k0_off5 (k0_t4 : Fin k0_t4_loop.trips) (c0_i32_124 : BitVec 32) : Fin 2 → Nat :=
  let c3_i32 : BitVec 32 := 3#32
  let v101 : Index := Scalar.indexCast c3_i32
  let c0_i32_23 : BitVec 32 := 0#32
  let c1_i32_25 : BitVec 32 := 1#32
  let arg16 : BitVec 32 := Scf.iv c0_i32_23 c1_i32_25 k0_t4
  let c128_i32 : BitVec 32 := 128#32
  let v99 : BitVec 32 := Scalar.muli arg16 c128_i32
  let v100 : BitVec 32 := Scalar.addi v99 c0_i32_124
  let v102 : Index := Scalar.indexCast v100
  ![3, v102.toNat]
def k0_off6 (i : grid0.Coords) (c0_i32_27 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32_0 : BitVec 32 := 224#32
  let v4 : BitVec 32 := Scalar.muli v1 c224_i32_0
  let v34 : BitVec 32 := Scalar.addi v4 c0_i32_27
  let c0_i32_28 : BitVec 32 := 0#32
  ![v34.toNat, 0]
def k0_off6_at (r : Fin 6) : BitVec 32 :=
  if r.val < 3 then
    if r.val < 1 then
      0#32
    else
      if r.val < 2 then
        4#32
      else
        208#32
  else
    if r.val < 4 then
      216#32
    else
      if r.val < 5 then
        212#32
      else
        220#32
@[reducible] def k0_t5_loop : Scf.Loop 32 :=
  let c0_i32_36 : BitVec 32 := 0#32
  let c32_i32_37 : BitVec 32 := 32#32
  let v43 : BitVec 32 := Scalar.addi c0_i32_36 c32_i32_37
  let c1_i32_38 : BitVec 32 := 1#32
  ⟨c0_i32_36, v43, c1_i32_38⟩
def k0_off7 (k0_t5 : Fin k0_t5_loop.trips) (c0_i32_124 : BitVec 32) : Fin 2 → Nat :=
  let c0_i32_125 : BitVec 32 := 0#32
  let v101 : Index := Scalar.indexCast c0_i32_125
  let c0_i32_36 : BitVec 32 := 0#32
  let c1_i32_38 : BitVec 32 := 1#32
  let arg16 : BitVec 32 := Scf.iv c0_i32_36 c1_i32_38 k0_t5
  let c128_i32 : BitVec 32 := 128#32
  let v99 : BitVec 32 := Scalar.muli arg16 c128_i32
  let v100 : BitVec 32 := Scalar.addi v99 c0_i32_124
  let v102 : Index := Scalar.indexCast v100
  ![0, v102.toNat]
@[reducible] def k0_t6_loop : Scf.Loop 32 :=
  let c0_i32_41 : BitVec 32 := 0#32
  let c32_i32_42 : BitVec 32 := 32#32
  let v45 : BitVec 32 := Scalar.addi c0_i32_41 c32_i32_42
  let c1_i32_43 : BitVec 32 := 1#32
  ⟨c0_i32_41, v45, c1_i32_43⟩
def k0_off8 (k0_t6 : Fin k0_t6_loop.trips) (c0_i32_124 : BitVec 32) : Fin 2 → Nat :=
  let c1_i32_125 : BitVec 32 := 1#32
  let v101 : Index := Scalar.indexCast c1_i32_125
  let c0_i32_41 : BitVec 32 := 0#32
  let c1_i32_43 : BitVec 32 := 1#32
  let arg16 : BitVec 32 := Scf.iv c0_i32_41 c1_i32_43 k0_t6
  let c128_i32 : BitVec 32 := 128#32
  let v99 : BitVec 32 := Scalar.muli arg16 c128_i32
  let v100 : BitVec 32 := Scalar.addi v99 c0_i32_124
  let v102 : Index := Scalar.indexCast v100
  ![1, v102.toNat]
@[reducible] def k0_t7_loop : Scf.Loop 32 :=
  let c0_i32_46 : BitVec 32 := 0#32
  let c32_i32_47 : BitVec 32 := 32#32
  let v47 : BitVec 32 := Scalar.addi c0_i32_46 c32_i32_47
  let c1_i32_48 : BitVec 32 := 1#32
  ⟨c0_i32_46, v47, c1_i32_48⟩
def k0_off9 (k0_t7 : Fin k0_t7_loop.trips) (c0_i32_124 : BitVec 32) : Fin 2 → Nat :=
  let c2_i32_125 : BitVec 32 := 2#32
  let v101 : Index := Scalar.indexCast c2_i32_125
  let c0_i32_46 : BitVec 32 := 0#32
  let c1_i32_48 : BitVec 32 := 1#32
  let arg16 : BitVec 32 := Scf.iv c0_i32_46 c1_i32_48 k0_t7
  let c128_i32 : BitVec 32 := 128#32
  let v99 : BitVec 32 := Scalar.muli arg16 c128_i32
  let v100 : BitVec 32 := Scalar.addi v99 c0_i32_124
  let v102 : Index := Scalar.indexCast v100
  ![2, v102.toNat]
@[reducible] def k0_t8_loop : Scf.Loop 32 :=
  let c0_i32_51 : BitVec 32 := 0#32
  let c32_i32_52 : BitVec 32 := 32#32
  let v49 : BitVec 32 := Scalar.addi c0_i32_51 c32_i32_52
  let c1_i32_53 : BitVec 32 := 1#32
  ⟨c0_i32_51, v49, c1_i32_53⟩
def k0_off10 (k0_t8 : Fin k0_t8_loop.trips) (c0_i32_124 : BitVec 32) : Fin 2 → Nat :=
  let c3_i32 : BitVec 32 := 3#32
  let v101 : Index := Scalar.indexCast c3_i32
  let c0_i32_51 : BitVec 32 := 0#32
  let c1_i32_53 : BitVec 32 := 1#32
  let arg16 : BitVec 32 := Scf.iv c0_i32_51 c1_i32_53 k0_t8
  let c128_i32 : BitVec 32 := 128#32
  let v99 : BitVec 32 := Scalar.muli arg16 c128_i32
  let v100 : BitVec 32 := Scalar.addi v99 c0_i32_124
  let v102 : Index := Scalar.indexCast v100
  ![3, v102.toNat]
@[reducible] def k0_t9_loop : Scf.Loop 32 :=
  let c1_i32_61 : BitVec 32 := 1#32
  let c26_i32 : BitVec 32 := 26#32
  let v57 : BitVec 32 := Scalar.addi c1_i32_61 c26_i32
  let c1_i32_62 : BitVec 32 := 1#32
  ⟨c1_i32_61, v57, c1_i32_62⟩
def k0_off11 (i : grid0.Coords) (k0_t9 : Fin k0_t9_loop.trips) (c0_i32_125 : BitVec 32) : Fin 2 → Nat :=
  let c9216_i32 : BitVec 32 := 9216#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32 : BitVec 32 := 224#32
  let v2 : BitVec 32 := Scalar.muli v1 c224_i32
  let v3 : BitVec 32 := Scalar.addi c9216_i32 v2
  let c2_i32_124 : BitVec 32 := 2#32
  let c1_i32_61 : BitVec 32 := 1#32
  let c1_i32_62 : BitVec 32 := 1#32
  let arg16 : BitVec 32 := Scf.iv c1_i32_61 c1_i32_62 k0_t9
  let v99 : BitVec 32 := Scalar.muli c2_i32_124 arg16
  let v100 : BitVec 32 := Scalar.addi v99 c0_i32_125
  let c4_i32_126 : BitVec 32 := 4#32
  let v101 : BitVec 32 := Scalar.muli v100 c4_i32_126
  let v102 : BitVec 32 := Scalar.addi v3 v101
  let c0_i32_127 : BitVec 32 := 0#32
  ![v102.toNat, 0]
def k0_off12 (i : grid0.Coords) (k0_t9 : Fin k0_t9_loop.trips) (c0_i32_125 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32_0 : BitVec 32 := 224#32
  let v4 : BitVec 32 := Scalar.muli v1 c224_i32_0
  let c2_i32_124 : BitVec 32 := 2#32
  let c1_i32_61 : BitVec 32 := 1#32
  let c1_i32_62 : BitVec 32 := 1#32
  let arg16 : BitVec 32 := Scf.iv c1_i32_61 c1_i32_62 k0_t9
  let v99 : BitVec 32 := Scalar.muli c2_i32_124 arg16
  let v100 : BitVec 32 := Scalar.addi v99 c0_i32_125
  let c2_i32_129 : BitVec 32 := 2#32
  let v105 : BitVec 32 := Scalar.subi v100 c2_i32_129
  let c4_i32_130 : BitVec 32 := 4#32
  let v106 : BitVec 32 := Scalar.muli v105 c4_i32_130
  let v107 : BitVec 32 := Scalar.addi v4 v106
  let c0_i32_131 : BitVec 32 := 0#32
  ![v107.toNat, 0]
@[reducible] def k0_t10_loop : Scf.Loop 32 :=
  let c0_i32_134 : BitVec 32 := 0#32
  let c32_i32_135 : BitVec 32 := 32#32
  let v110 : BitVec 32 := Scalar.addi c0_i32_134 c32_i32_135
  let c1_i32_136 : BitVec 32 := 1#32
  ⟨c0_i32_134, v110, c1_i32_136⟩
def k0_off13 (k0_t10 : Fin k0_t10_loop.trips) (c0_i32_197 : BitVec 32) : Fin 2 → Nat :=
  let c0_i32_198 : BitVec 32 := 0#32
  let v157 : Index := Scalar.indexCast c0_i32_198
  let c0_i32_134 : BitVec 32 := 0#32
  let c1_i32_136 : BitVec 32 := 1#32
  let arg18 : BitVec 32 := Scf.iv c0_i32_134 c1_i32_136 k0_t10
  let c128_i32 : BitVec 32 := 128#32
  let v155 : BitVec 32 := Scalar.muli arg18 c128_i32
  let v156 : BitVec 32 := Scalar.addi v155 c0_i32_197
  let v158 : Index := Scalar.indexCast v156
  ![0, v158.toNat]
@[reducible] def k0_t11_loop : Scf.Loop 32 :=
  let c0_i32_139 : BitVec 32 := 0#32
  let c32_i32_140 : BitVec 32 := 32#32
  let v112 : BitVec 32 := Scalar.addi c0_i32_139 c32_i32_140
  let c1_i32_141 : BitVec 32 := 1#32
  ⟨c0_i32_139, v112, c1_i32_141⟩
def k0_off14 (k0_t11 : Fin k0_t11_loop.trips) (c0_i32_197 : BitVec 32) : Fin 2 → Nat :=
  let c1_i32_198 : BitVec 32 := 1#32
  let v157 : Index := Scalar.indexCast c1_i32_198
  let c0_i32_139 : BitVec 32 := 0#32
  let c1_i32_141 : BitVec 32 := 1#32
  let arg18 : BitVec 32 := Scf.iv c0_i32_139 c1_i32_141 k0_t11
  let c128_i32 : BitVec 32 := 128#32
  let v155 : BitVec 32 := Scalar.muli arg18 c128_i32
  let v156 : BitVec 32 := Scalar.addi v155 c0_i32_197
  let v158 : Index := Scalar.indexCast v156
  ![1, v158.toNat]
@[reducible] def k0_t12_loop : Scf.Loop 32 :=
  let c0_i32_144 : BitVec 32 := 0#32
  let c32_i32_145 : BitVec 32 := 32#32
  let v114 : BitVec 32 := Scalar.addi c0_i32_144 c32_i32_145
  let c1_i32_146 : BitVec 32 := 1#32
  ⟨c0_i32_144, v114, c1_i32_146⟩
def k0_off15 (k0_t12 : Fin k0_t12_loop.trips) (c0_i32_197 : BitVec 32) : Fin 2 → Nat :=
  let c2_i32_198 : BitVec 32 := 2#32
  let v157 : Index := Scalar.indexCast c2_i32_198
  let c0_i32_144 : BitVec 32 := 0#32
  let c1_i32_146 : BitVec 32 := 1#32
  let arg18 : BitVec 32 := Scf.iv c0_i32_144 c1_i32_146 k0_t12
  let c128_i32 : BitVec 32 := 128#32
  let v155 : BitVec 32 := Scalar.muli arg18 c128_i32
  let v156 : BitVec 32 := Scalar.addi v155 c0_i32_197
  let v158 : Index := Scalar.indexCast v156
  ![2, v158.toNat]
@[reducible] def k0_t13_loop : Scf.Loop 32 :=
  let c0_i32_149 : BitVec 32 := 0#32
  let c32_i32_150 : BitVec 32 := 32#32
  let v116 : BitVec 32 := Scalar.addi c0_i32_149 c32_i32_150
  let c1_i32_151 : BitVec 32 := 1#32
  ⟨c0_i32_149, v116, c1_i32_151⟩
def k0_off16 (k0_t13 : Fin k0_t13_loop.trips) (c0_i32_197 : BitVec 32) : Fin 2 → Nat :=
  let c3_i32 : BitVec 32 := 3#32
  let v157 : Index := Scalar.indexCast c3_i32
  let c0_i32_149 : BitVec 32 := 0#32
  let c1_i32_151 : BitVec 32 := 1#32
  let arg18 : BitVec 32 := Scf.iv c0_i32_149 c1_i32_151 k0_t13
  let c128_i32 : BitVec 32 := 128#32
  let v155 : BitVec 32 := Scalar.muli arg18 c128_i32
  let v156 : BitVec 32 := Scalar.addi v155 c0_i32_197
  let v158 : Index := Scalar.indexCast v156
  ![3, v158.toNat]
def k0_off17 (i : grid0.Coords) (k0_t9 : Fin k0_t9_loop.trips) (c0_i32_125 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32_0 : BitVec 32 := 224#32
  let v4 : BitVec 32 := Scalar.muli v1 c224_i32_0
  let c2_i32_124 : BitVec 32 := 2#32
  let c1_i32_61 : BitVec 32 := 1#32
  let c1_i32_62 : BitVec 32 := 1#32
  let arg16 : BitVec 32 := Scf.iv c1_i32_61 c1_i32_62 k0_t9
  let v99 : BitVec 32 := Scalar.muli c2_i32_124 arg16
  let v100 : BitVec 32 := Scalar.addi v99 c0_i32_125
  let c4_i32_153 : BitVec 32 := 4#32
  let v118 : BitVec 32 := Scalar.muli v100 c4_i32_153
  let v119 : BitVec 32 := Scalar.addi v4 v118
  let c0_i32_154 : BitVec 32 := 0#32
  ![v119.toNat, 0]
def k0_off18 (i : grid0.Coords) (k0_t9 : Fin k0_t9_loop.trips) (c0_i32_125 : BitVec 32) : Fin 2 → Nat :=
  let c9216_i32 : BitVec 32 := 9216#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c224_i32 : BitVec 32 := 224#32
  let v2 : BitVec 32 := Scalar.muli v1 c224_i32
  let v3 : BitVec 32 := Scalar.addi c9216_i32 v2
  let c2_i32_124 : BitVec 32 := 2#32
  let c1_i32_61 : BitVec 32 := 1#32
  let c1_i32_62 : BitVec 32 := 1#32
  let arg16 : BitVec 32 := Scf.iv c1_i32_61 c1_i32_62 k0_t9
  let v99 : BitVec 32 := Scalar.muli c2_i32_124 arg16
  let v100 : BitVec 32 := Scalar.addi v99 c0_i32_125
  let c2_i32_156 : BitVec 32 := 2#32
  let v122 : BitVec 32 := Scalar.addi v100 c2_i32_156
  let c4_i32_157 : BitVec 32 := 4#32
  let v123 : BitVec 32 := Scalar.muli v122 c4_i32_157
  let v124 : BitVec 32 := Scalar.addi v3 v123
  let c0_i32_158 : BitVec 32 := 0#32
  ![v124.toNat, 0]
@[reducible] def k0_t14_loop : Scf.Loop 32 :=
  let c0_i32_170 : BitVec 32 := 0#32
  let c32_i32_171 : BitVec 32 := 32#32
  let v138 : BitVec 32 := Scalar.addi c0_i32_170 c32_i32_171
  let c1_i32_172 : BitVec 32 := 1#32
  ⟨c0_i32_170, v138, c1_i32_172⟩
def k0_off19 (k0_t14 : Fin k0_t14_loop.trips) (c0_i32_197 : BitVec 32) : Fin 2 → Nat :=
  let c0_i32_198 : BitVec 32 := 0#32
  let v157 : Index := Scalar.indexCast c0_i32_198
  let c0_i32_170 : BitVec 32 := 0#32
  let c1_i32_172 : BitVec 32 := 1#32
  let arg18 : BitVec 32 := Scf.iv c0_i32_170 c1_i32_172 k0_t14
  let c128_i32 : BitVec 32 := 128#32
  let v155 : BitVec 32 := Scalar.muli arg18 c128_i32
  let v156 : BitVec 32 := Scalar.addi v155 c0_i32_197
  let v158 : Index := Scalar.indexCast v156
  ![0, v158.toNat]
@[reducible] def k0_t15_loop : Scf.Loop 32 :=
  let c0_i32_175 : BitVec 32 := 0#32
  let c32_i32_176 : BitVec 32 := 32#32
  let v140 : BitVec 32 := Scalar.addi c0_i32_175 c32_i32_176
  let c1_i32_177 : BitVec 32 := 1#32
  ⟨c0_i32_175, v140, c1_i32_177⟩
def k0_off20 (k0_t15 : Fin k0_t15_loop.trips) (c0_i32_197 : BitVec 32) : Fin 2 → Nat :=
  let c1_i32_198 : BitVec 32 := 1#32
  let v157 : Index := Scalar.indexCast c1_i32_198
  let c0_i32_175 : BitVec 32 := 0#32
  let c1_i32_177 : BitVec 32 := 1#32
  let arg18 : BitVec 32 := Scf.iv c0_i32_175 c1_i32_177 k0_t15
  let c128_i32 : BitVec 32 := 128#32
  let v155 : BitVec 32 := Scalar.muli arg18 c128_i32
  let v156 : BitVec 32 := Scalar.addi v155 c0_i32_197
  let v158 : Index := Scalar.indexCast v156
  ![1, v158.toNat]
@[reducible] def k0_t16_loop : Scf.Loop 32 :=
  let c0_i32_180 : BitVec 32 := 0#32
  let c32_i32_181 : BitVec 32 := 32#32
  let v142 : BitVec 32 := Scalar.addi c0_i32_180 c32_i32_181
  let c1_i32_182 : BitVec 32 := 1#32
  ⟨c0_i32_180, v142, c1_i32_182⟩
def k0_off21 (k0_t16 : Fin k0_t16_loop.trips) (c0_i32_197 : BitVec 32) : Fin 2 → Nat :=
  let c2_i32_198 : BitVec 32 := 2#32
  let v157 : Index := Scalar.indexCast c2_i32_198
  let c0_i32_180 : BitVec 32 := 0#32
  let c1_i32_182 : BitVec 32 := 1#32
  let arg18 : BitVec 32 := Scf.iv c0_i32_180 c1_i32_182 k0_t16
  let c128_i32 : BitVec 32 := 128#32
  let v155 : BitVec 32 := Scalar.muli arg18 c128_i32
  let v156 : BitVec 32 := Scalar.addi v155 c0_i32_197
  let v158 : Index := Scalar.indexCast v156
  ![2, v158.toNat]
@[reducible] def k0_t17_loop : Scf.Loop 32 :=
  let c0_i32_185 : BitVec 32 := 0#32
  let c32_i32_186 : BitVec 32 := 32#32
  let v144 : BitVec 32 := Scalar.addi c0_i32_185 c32_i32_186
  let c1_i32_187 : BitVec 32 := 1#32
  ⟨c0_i32_185, v144, c1_i32_187⟩
def k0_off22 (k0_t17 : Fin k0_t17_loop.trips) (c0_i32_197 : BitVec 32) : Fin 2 → Nat :=
  let c3_i32 : BitVec 32 := 3#32
  let v157 : Index := Scalar.indexCast c3_i32
  let c0_i32_185 : BitVec 32 := 0#32
  let c1_i32_187 : BitVec 32 := 1#32
  let arg18 : BitVec 32 := Scf.iv c0_i32_185 c1_i32_187 k0_t17
  let c128_i32 : BitVec 32 := 128#32
  let v155 : BitVec 32 := Scalar.muli arg18 c128_i32
  let v156 : BitVec 32 := Scalar.addi v155 c0_i32_197
  let v158 : Index := Scalar.indexCast v156
  ![3, v158.toNat]
@[reducible] def k0_t18_loop : Scf.Loop 32 :=
  let c0_i32_69 : BitVec 32 := 0#32
  let c32_i32_70 : BitVec 32 := 32#32
  let v65 : BitVec 32 := Scalar.addi c0_i32_69 c32_i32_70
  let c1_i32_71 : BitVec 32 := 1#32
  ⟨c0_i32_69, v65, c1_i32_71⟩
def k0_off23 (k0_t18 : Fin k0_t18_loop.trips) (c0_i32_124 : BitVec 32) : Fin 2 → Nat :=
  let c0_i32_125 : BitVec 32 := 0#32
  let v101 : Index := Scalar.indexCast c0_i32_125
  let c0_i32_69 : BitVec 32 := 0#32
  let c1_i32_71 : BitVec 32 := 1#32
  let arg16 : BitVec 32 := Scf.iv c0_i32_69 c1_i32_71 k0_t18
  let c128_i32 : BitVec 32 := 128#32
  let v99 : BitVec 32 := Scalar.muli arg16 c128_i32
  let v100 : BitVec 32 := Scalar.addi v99 c0_i32_124
  let v102 : Index := Scalar.indexCast v100
  ![0, v102.toNat]
@[reducible] def k0_t19_loop : Scf.Loop 32 :=
  let c0_i32_74 : BitVec 32 := 0#32
  let c32_i32_75 : BitVec 32 := 32#32
  let v67 : BitVec 32 := Scalar.addi c0_i32_74 c32_i32_75
  let c1_i32_76 : BitVec 32 := 1#32
  ⟨c0_i32_74, v67, c1_i32_76⟩
def k0_off24 (k0_t19 : Fin k0_t19_loop.trips) (c0_i32_124 : BitVec 32) : Fin 2 → Nat :=
  let c1_i32_125 : BitVec 32 := 1#32
  let v101 : Index := Scalar.indexCast c1_i32_125
  let c0_i32_74 : BitVec 32 := 0#32
  let c1_i32_76 : BitVec 32 := 1#32
  let arg16 : BitVec 32 := Scf.iv c0_i32_74 c1_i32_76 k0_t19
  let c128_i32 : BitVec 32 := 128#32
  let v99 : BitVec 32 := Scalar.muli arg16 c128_i32
  let v100 : BitVec 32 := Scalar.addi v99 c0_i32_124
  let v102 : Index := Scalar.indexCast v100
  ![1, v102.toNat]
@[reducible] def k0_t20_loop : Scf.Loop 32 :=
  let c0_i32_79 : BitVec 32 := 0#32
  let c32_i32_80 : BitVec 32 := 32#32
  let v69 : BitVec 32 := Scalar.addi c0_i32_79 c32_i32_80
  let c1_i32_81 : BitVec 32 := 1#32
  ⟨c0_i32_79, v69, c1_i32_81⟩
def k0_off25 (k0_t20 : Fin k0_t20_loop.trips) (c0_i32_124 : BitVec 32) : Fin 2 → Nat :=
  let c2_i32_125 : BitVec 32 := 2#32
  let v101 : Index := Scalar.indexCast c2_i32_125
  let c0_i32_79 : BitVec 32 := 0#32
  let c1_i32_81 : BitVec 32 := 1#32
  let arg16 : BitVec 32 := Scf.iv c0_i32_79 c1_i32_81 k0_t20
  let c128_i32 : BitVec 32 := 128#32
  let v99 : BitVec 32 := Scalar.muli arg16 c128_i32
  let v100 : BitVec 32 := Scalar.addi v99 c0_i32_124
  let v102 : Index := Scalar.indexCast v100
  ![2, v102.toNat]
@[reducible] def k0_t21_loop : Scf.Loop 32 :=
  let c0_i32_84 : BitVec 32 := 0#32
  let c32_i32_85 : BitVec 32 := 32#32
  let v71 : BitVec 32 := Scalar.addi c0_i32_84 c32_i32_85
  let c1_i32_86 : BitVec 32 := 1#32
  ⟨c0_i32_84, v71, c1_i32_86⟩
def k0_off26 (k0_t21 : Fin k0_t21_loop.trips) (c0_i32_124 : BitVec 32) : Fin 2 → Nat :=
  let c3_i32 : BitVec 32 := 3#32
  let v101 : Index := Scalar.indexCast c3_i32
  let c0_i32_84 : BitVec 32 := 0#32
  let c1_i32_86 : BitVec 32 := 1#32
  let arg16 : BitVec 32 := Scf.iv c0_i32_84 c1_i32_86 k0_t21
  let c128_i32 : BitVec 32 := 128#32
  let v99 : BitVec 32 := Scalar.muli arg16 c128_i32
  let v100 : BitVec 32 := Scalar.addi v99 c0_i32_124
  let v102 : Index := Scalar.indexCast v100
  ![3, v102.toNat]
@[reducible] def k0_t22_loop : Scf.Loop 32 :=
  let c0_i32_96 : BitVec 32 := 0#32
  let c32_i32_97 : BitVec 32 := 32#32
  let v82 : BitVec 32 := Scalar.addi c0_i32_96 c32_i32_97
  let c1_i32_98 : BitVec 32 := 1#32
  ⟨c0_i32_96, v82, c1_i32_98⟩
def k0_off27 (k0_t22 : Fin k0_t22_loop.trips) (c0_i32_124 : BitVec 32) : Fin 2 → Nat :=
  let c0_i32_125 : BitVec 32 := 0#32
  let v101 : Index := Scalar.indexCast c0_i32_125
  let c0_i32_96 : BitVec 32 := 0#32
  let c1_i32_98 : BitVec 32 := 1#32
  let arg16 : BitVec 32 := Scf.iv c0_i32_96 c1_i32_98 k0_t22
  let c128_i32 : BitVec 32 := 128#32
  let v99 : BitVec 32 := Scalar.muli arg16 c128_i32
  let v100 : BitVec 32 := Scalar.addi v99 c0_i32_124
  let v102 : Index := Scalar.indexCast v100
  ![0, v102.toNat]
@[reducible] def k0_t23_loop : Scf.Loop 32 :=
  let c0_i32_101 : BitVec 32 := 0#32
  let c32_i32_102 : BitVec 32 := 32#32
  let v84 : BitVec 32 := Scalar.addi c0_i32_101 c32_i32_102
  let c1_i32_103 : BitVec 32 := 1#32
  ⟨c0_i32_101, v84, c1_i32_103⟩
def k0_off28 (k0_t23 : Fin k0_t23_loop.trips) (c0_i32_124 : BitVec 32) : Fin 2 → Nat :=
  let c1_i32_125 : BitVec 32 := 1#32
  let v101 : Index := Scalar.indexCast c1_i32_125
  let c0_i32_101 : BitVec 32 := 0#32
  let c1_i32_103 : BitVec 32 := 1#32
  let arg16 : BitVec 32 := Scf.iv c0_i32_101 c1_i32_103 k0_t23
  let c128_i32 : BitVec 32 := 128#32
  let v99 : BitVec 32 := Scalar.muli arg16 c128_i32
  let v100 : BitVec 32 := Scalar.addi v99 c0_i32_124
  let v102 : Index := Scalar.indexCast v100
  ![1, v102.toNat]
@[reducible] def k0_t24_loop : Scf.Loop 32 :=
  let c0_i32_106 : BitVec 32 := 0#32
  let c32_i32_107 : BitVec 32 := 32#32
  let v86 : BitVec 32 := Scalar.addi c0_i32_106 c32_i32_107
  let c1_i32_108 : BitVec 32 := 1#32
  ⟨c0_i32_106, v86, c1_i32_108⟩
def k0_off29 (k0_t24 : Fin k0_t24_loop.trips) (c0_i32_124 : BitVec 32) : Fin 2 → Nat :=
  let c2_i32_125 : BitVec 32 := 2#32
  let v101 : Index := Scalar.indexCast c2_i32_125
  let c0_i32_106 : BitVec 32 := 0#32
  let c1_i32_108 : BitVec 32 := 1#32
  let arg16 : BitVec 32 := Scf.iv c0_i32_106 c1_i32_108 k0_t24
  let c128_i32 : BitVec 32 := 128#32
  let v99 : BitVec 32 := Scalar.muli arg16 c128_i32
  let v100 : BitVec 32 := Scalar.addi v99 c0_i32_124
  let v102 : Index := Scalar.indexCast v100
  ![2, v102.toNat]
@[reducible] def k0_t25_loop : Scf.Loop 32 :=
  let c0_i32_111 : BitVec 32 := 0#32
  let c32_i32_112 : BitVec 32 := 32#32
  let v88 : BitVec 32 := Scalar.addi c0_i32_111 c32_i32_112
  let c1_i32_113 : BitVec 32 := 1#32
  ⟨c0_i32_111, v88, c1_i32_113⟩
def k0_off30 (k0_t25 : Fin k0_t25_loop.trips) (c0_i32_124 : BitVec 32) : Fin 2 → Nat :=
  let c3_i32 : BitVec 32 := 3#32
  let v101 : Index := Scalar.indexCast c3_i32
  let c0_i32_111 : BitVec 32 := 0#32
  let c1_i32_113 : BitVec 32 := 1#32
  let arg16 : BitVec 32 := Scf.iv c0_i32_111 c1_i32_113 k0_t25
  let c128_i32 : BitVec 32 := 128#32
  let v99 : BitVec 32 := Scalar.muli arg16 c128_i32
  let v100 : BitVec 32 := Scalar.addi v99 c0_i32_124
  let v102 : Index := Scalar.indexCast v100
  ![3, v102.toNat]
abbrev grid1 : Pipeline.Grid := ⟨1, ![18], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x8192x4096 : Shape := ⟨3, ![2, 8192, 4096]⟩
abbrev S1 : Shape := ⟨1, ![1]⟩
abbrev S1x1x1 : Shape := ⟨3, ![1, 1, 1]⟩

abbrev nBuf : Space → Nat
  | .hbm => 16
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S1, .f32⟩
  | .hbm, ⟨2, _⟩ => ⟨S1, .f32⟩
  | .hbm, ⟨3, _⟩ => ⟨S1x1x1, .f32⟩
  | .hbm, ⟨4, _⟩ => ⟨S2x8192x4096, .f32⟩
  | .hbm, ⟨5, _⟩ => ⟨S2x8192x4096, .f32⟩
  | .hbm, ⟨6, _⟩ => ⟨S1x1x1, .f32⟩
  | .hbm, ⟨7, _⟩ => ⟨S2x8192x4096, .f32⟩
  | .hbm, ⟨8, _⟩ => ⟨S2x8192x4096, .f32⟩
  | .hbm, ⟨9, _⟩ => ⟨S2x8192x4096, .f32⟩
  | .hbm, ⟨10, _⟩ => ⟨S1x1x1, .f32⟩
  | .hbm, ⟨11, _⟩ => ⟨S2x8192x4096, .f32⟩
  | .hbm, ⟨12, _⟩ => ⟨S2x8192x4096, .f32⟩
  | .hbm, ⟨13, _⟩ => ⟨S1x1x1, .f32⟩
  | .hbm, ⟨14, _⟩ => ⟨S2x8192x4096, .f32⟩
  | .hbm, ⟨15, _⟩ => ⟨S2x8192x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Proof.Setup.lean ====
/-
  What every module of this proof is over: the program's names, the body table and the resource algebra of the launch,
  and two assertions about a buffer seen through a memref. `holds m Y` says that the buffer is held whole and reads `Y`
  through the memref. `upTo m Y n` says that it is held whole and reads `Y` at the first `n` elements of a 4 x 4096
  block, counted row by row.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof.Quant

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's body table and algebra -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds, the pipeline's rounds and the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP (F := F)).LandsIn (upEmb : UEmb _ 𝕄) := by unfold EP; infer_instance

/-- The vector subcore at grid point `i` of device `d`. -/
abbrev thr (d : Dev nD) (i : grid0.Coords) : Thread nD τ := V d ((i 0).castLE hcore0) ((i 1).castLE hsub0)

/-- A program of that vector subcore. -/
abbrev TileProg (F : FTy → Type) (i : grid0.Coords) (α : Type) : Type 1 :=
  Prog (TpuEff nD τ sig (Elt F) Λ₀ (.scVector ((i 0).castLE hcore0) ((i 1).castLE hsub0))) α

/-! ## A buffer through a memref -/

/-- The buffer is held whole and reads `Y` through the memref. -/
def holds (c : Thread nD τ) {sp : Space} {s : Shape} (m : Memref sig c.2.kind sp s .f32) (Y : s.Idx → F .f32) : sProp 𝕄 :=
  iprop(∃ f, (m.view.loc c ↦[m.view.set]{fullShare} f) ∗ ⌜m.view.read (Elt F) f = Y⌝)

/-- The buffer is held whole, at contents not known. -/
def raw (c : Thread nD τ) {sp : Space} {s : Shape} (m : Memref sig c.2.kind sp s .f32) : sProp 𝕄 :=
  iprop(∃ f, (m.view.loc c ↦[m.view.set]{fullShare} f))

/-- A block's element, counted row by row. -/
def lin (j : S4x4096.Idx) : ℕ := 4096 * (j 0).val + (j 1).val

/-- The buffer is held whole and reads `Y` at the block's first `n` elements. -/
def upTo (c : Thread nD τ) {sp : Space} (m : Memref sig c.2.kind sp S4x4096 .f32) (Y : S4x4096.Idx → F .f32) (n : ℕ) : sProp 𝕄 :=
  iprop(∃ f, (m.view.loc c ↦[m.view.set]{fullShare} f) ∗ ⌜∀ j, lin j < n → m.view.read (Elt F) f j = Y j⌝)

theorem raw_upTo (c : Thread nD τ) {sp : Space} (m : Memref sig c.2.kind sp S4x4096 .f32) (Y : S4x4096.Idx → F .f32) :
    raw c m ⊢ upTo c m Y 0 := by
  unfold raw upTo
  iintro ⟨%f, Hf⟩
  iexists f
  isplitl [Hf]; · iexact Hf
  ipureintro; intro j h; exact absurd h (Nat.not_lt_zero _)

theorem upTo_holds (c : Thread nD τ) {sp : Space} (m : Memref sig c.2.kind sp S4x4096 .f32) (Y : S4x4096.Idx → F .f32) :
    upTo c m Y 16384 ⊢ holds c m Y := by
  unfold upTo holds
  iintro ⟨%f, Hf, %h⟩
  iexists f
  isplitl [Hf]; · iexact Hf
  ipureintro; funext j
  refine h j ?_
  have h0 : (j 0).val < 4 := (j 0).isLt
  have h1 : (j 1).val < 4096 := (j 1).isLt
  unfold lin; omega

theorem holds_raw (c : Thread nD τ) {sp : Space} {s : Shape} (m : Memref sig c.2.kind sp s .f32) (Y : s.Idx → F .f32) :
    holds c m Y ⊢ raw c m := by
  unfold raw holds
  iintro ⟨%f, Hf, -⟩
  iexists f; iexact Hf

end Cert.Proof.Quant
-- ==== Proof.Row.lean ====
/-
  The arithmetic of the SparseCore kernel on one block of four rows. A block is handled in four loops, one per row; each
  of a loop's 32 trips handles eight groups of sixteen elements. `piece` is one group, `rowBody` one trip, `rowLoop` one
  row, `compute` the block. Run on a source block that reads `X` and a destination block at any contents, `compute` leaves
  the destination reading `quant` of `X` at every element.
-/
module

public import proofs.«01_k».proof.Proof.Setup

@[expose] public section

noncomputable section

namespace Cert.Proof.Quant

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Sixteen elements quantised and brought back: scaled by `s`, less `z`, rounded, plus `z`, times `v`. -/
def lanes (s v z : F .f32) (x : Vec F S1x16 .f32) : FVec F S1x16 .f32 :=
  shapeCast S1x16
    (mulf (addf (roundeven (subf (mulf (shapeCast S16 x shapeCasts_S1x16_S16 : FVec F S16 .f32) (broadcast S16 s)) (broadcast S16 z)))
      (broadcast S16 z)) (broadcast S16 v)) shapeCasts_S16_S1x16

/-- One element of the same. -/
def quant (s v z x : F .f32) : F .f32 :=
  FloatOps.mulf (FloatOps.addf (FloatOps.roundeven (FloatOps.subf (FloatOps.mulf x s) z)) z) v

theorem lanes_apply (s v z : F .f32) (x : Vec F S1x16 .f32) (j : S1x16.Idx) : lanes s v z x j = quant s v z (x j) := by
  have h : Shape.reshapeEquiv shapeCasts_S1x16_S16 (Shape.reshapeEquiv shapeCasts_S16_S1x16 j) = j := by
    rw [Shape.reshapeEquiv_reshapeEquiv, Shape.reshapeEquiv_self]
  show quant s v z (x (Shape.reshapeEquiv shapeCasts_S1x16_S16 (Shape.reshapeEquiv shapeCasts_S16_S1x16 j))) = _
  rw [h]

/-- Row `r`, the sixteen columns from `128 t + c`, as the kernel computes the place. -/
abbrev rowOff (r : ℕ) (t : Fin k0_t1_loop.trips) (c : BitVec 32) : Fin 2 → ℕ :=
  ![r, (Scalar.indexCast (Scalar.addi (Scalar.muli (Scf.iv 0#32 1#32 t.val) 128#32) c)).toNat]

theorem rowOff_eq (r : ℕ) (t : Fin k0_t1_loop.trips) (u : Fin 8) : rowOff r t (BitVec.ofNat 32 (16 * u.val)) = ![r, 128 * t.val + 16 * u.val] := by
  have h : ∀ (t : Fin k0_t1_loop.trips) (u : Fin 8),
      (Scalar.indexCast (Scalar.addi (Scalar.muli (Scf.iv 0#32 1#32 t.val) 128#32) (BitVec.ofNat 32 (16 * u.val)))).toNat
        = 128 * t.val + 16 * u.val := by decide +kernel
  unfold rowOff; rw [h]

section Program

variable (i : grid0.Coords) (src dst : Memref sig .scVector .vmem S4x4096 .f32) (s v z : F .f32)

/-- One group: load the source, load the destination for nothing, store. -/
def piece (o : Fin 2 → ℕ) (h : ∀ a, o a + S1x16.size a ≤ S4x4096.size a) : TileProg F i PUnit := do
  let x : Vec F S1x16 .f32 ← Prog.lift (.load src (Rect.unit (s := S4x4096) o S1x16.size h).toLoadRect (View.loadsAt_vmem h_S1x16))
  let _ : Vec F S1x16 .f32 ← Prog.lift (.load dst (Rect.unit (s := S4x4096) o S1x16.size h).toLoadRect (View.loadsAt_vmem h_S1x16))
  Prog.lift (.store dst (Rect.unit (s := S4x4096) o S1x16.size h) (lanes s v z x) Finset.univ (View.stores_vmem_bits_univ h_S1x16 rfl) (.inl rfl))

/-- One trip: the eight groups of 128 columns of row `r`. -/
def rowBody (r : ℕ) (t : Fin k0_t1_loop.trips)
    (h : ∀ u : Fin 8, ∀ a, rowOff r t (BitVec.ofNat 32 (16 * u.val)) a + S1x16.size a ≤ S4x4096.size a) : TileProg F i (BitVec 32) := do
  piece i src dst s v z (rowOff r t 0#32) (h 0)
  piece i src dst s v z (rowOff r t 16#32) (h 1)
  piece i src dst s v z (rowOff r t 32#32) (h 2)
  piece i src dst s v z (rowOff r t 48#32) (h 3)
  piece i src dst s v z (rowOff r t 64#32) (h 4)
  piece i src dst s v z (rowOff r t 80#32) (h 5)
  piece i src dst s v z (rowOff r t 96#32) (h 6)
  piece i src dst s v z (rowOff r t 112#32) (h 7)
  pure 0#32

/-- One row. -/
def rowLoop (r : ℕ) (h : ∀ (t : Fin k0_t1_loop.trips) (u : Fin 8), ∀ a, rowOff r t (BitVec.ofNat 32 (16 * u.val)) a + S1x16.size a ≤ S4x4096.size a) :
    TileProg F i (BitVec 32) :=
  Scf.Loop.for k0_t1_loop k0_t1_ok 0#32 fun t _ => rowBody i src dst s v z r t (h t)

theorem rowOff_inb (r : Fin 4) (t : Fin k0_t1_loop.trips) (u : Fin 8) :
    ∀ a, rowOff r t (BitVec.ofNat 32 (16 * u.val)) a + S1x16.size a ≤ S4x4096.size a := by
  rw [rowOff_eq]
  have ht : t.val < 32 := Nat.lt_of_lt_of_le t.isLt (by decide)
  have hu := u.isLt
  intro a
  match a with
  | 0 => show r.val + 1 ≤ 4; omega
  | 1 => show 128 * t.val + 16 * u.val + 16 ≤ 4096; omega

/-- One block. -/
def compute : TileProg F i PUnit := do
  let _ ← rowLoop i src dst s v z 0 (rowOff_inb 0)
  let _ ← rowLoop i src dst s v z 1 (rowOff_inb 1)
  let _ ← rowLoop i src dst s v z 2 (rowOff_inb 2)
  let _ ← rowLoop i src dst s v z 3 (rowOff_inb 3)
  pure ⟨⟩

end Program

section Run

variable (d : Dev nD) (i : grid0.Coords) (src dst : Memref sig .scVector .vmem S4x4096 .f32) (s v z : F .f32)
  (X : S4x4096.Idx → F .f32)

/-- One group run: sixteen more elements are as they should be. -/
theorem piece_wp (o : Fin 2 → ℕ) (h : ∀ a, o a + S1x16.size a ≤ S4x4096.size a) (r c n : ℕ) (ho : o = ![r, c]) (hn : n = 4096 * r + c)
    {β : Type} (k : PUnit → Prog (TpuEff nD τ sig (Elt F) Λ₀ (thr d i).2) β) (Q : β → sProp 𝕄) :
    iprop(holds (thr d i) src X ∗ upTo (thr d i) dst (fun j => quant s v z (X j)) n)
      ⊢ iprop((iprop(holds (thr d i) src X ∗ upTo (thr d i) dst (fun j => quant s v z (X j)) (n + 16))
            -∗ wp frame (wpE (defs₀ (F := F)) 𝒱₀ (thr d i) none) Set.univ (k ⟨⟩) Q)
          -∗ wp frame (wpE (defs₀ (F := F)) 𝒱₀ (thr d i) none) Set.univ (piece i src dst s v z o h >>= k) Q) := by
  subst ho
  unfold holds upTo
  iintro ⟨⟨%f, Hf, %hf⟩, ⟨%g, Hg, %hg⟩⟩ Hk
  iapply (wp_load_rect (m := src) (r := Rect.unit (s := S4x4096) ![r, c] S1x16.size h) 𝒱₀ (thr d i) none Set.univ (View.set_slice_subset _ _)) $$ Hf
  iintro Hf
  iapply (wp_load_rect (m := dst) (r := Rect.unit (s := S4x4096) ![r, c] S1x16.size h) 𝒱₀ (thr d i) none Set.univ (View.set_slice_subset _ _)) $$ Hg
  iintro Hg
  iapply (wp_store (m := dst) (r := Rect.unit (s := S4x4096) ![r, c] S1x16.size h) 𝒱₀ (thr d i) none Set.univ (View.set_slice_subset _ _)) $$ Hg
  iintro Hg
  iapply Hk
  isplitl [Hf]
  · iexists f
    isplitl [Hf]; · iexact Hf
    ipureintro; exact hf
  iexists _
  isplitl [Hg]; · iexact Hg
  ipureintro
  intro j hj
  have h1 : c + 16 ≤ 4096 := h 1
  have hj1 : (j 1).val < 4096 := (j 1).isLt
  by_cases hm : ∃ x, (Rect.unit (s := S4x4096) ![r, c] S1x16.size h).emb x = j
  · obtain ⟨x, rfl⟩ := hm
    refine (View.read_slice_write_emb (v := dst.view) (Val := Elt F) _ g _ (Finset.mem_univ x)).trans ?_
    rw [lanes_apply, ← hf]
    rfl
  · refine (View.read_slice_write_of_not_mem (v := dst.view) (Val := Elt F) _ g _ Finset.univ (y := j) ?_).trans (hg j ?_)
    · intro hmem
      obtain ⟨x, -, hx⟩ := Finset.mem_map.mp hmem
      exact hm ⟨x, hx⟩
    · by_contra hlt
      unfold lin at hj hlt
      have h0 : (j 0).val = r := by omega
      have hle : ∀ a, ![r, c] a ≤ (j a).val ∧ (j a).val - ![r, c] a < S1x16.size a := fun a => by
        match a with
        | 0 => exact ⟨show r ≤ (j 0).val by omega, show (j 0).val - r < 1 by omega⟩
        | 1 => exact ⟨show c ≤ (j 1).val by omega, show (j 1).val - c < 16 by omega⟩
      refine hm ⟨fun a => ⟨(j a).val - ![r, c] a, (hle a).2⟩, ?_⟩
      funext a
      refine Fin.ext ?_
      show ![r, c] a + 1 * ((j a).val - ![r, c] a) = (j a).val
      have := (hle a).1
      omega

/-- One trip run: 128 more elements. -/
theorem rowBody_wp (r : ℕ) (t : Fin k0_t1_loop.trips)
    (h : ∀ u : Fin 8, ∀ a, rowOff r t (BitVec.ofNat 32 (16 * u.val)) a + S1x16.size a ≤ S4x4096.size a) :
    iprop(holds (thr d i) src X ∗ upTo (thr d i) dst (fun j => quant s v z (X j)) (4096 * r + 128 * t.val))
      ⊢ wp frame (wpE (defs₀ (F := F)) 𝒱₀ (thr d i) none) Set.univ (rowBody i src dst s v z r t h)
          fun _ => iprop(holds (thr d i) src X ∗ upTo (thr d i) dst (fun j => quant s v z (X j)) (4096 * r + 128 * (t.val + 1))) := by
  unfold rowBody
  iintro H
  iapply (piece_wp d i src dst s v z X _ (h 0) r (128 * t.val + 16 * 0) _ (rowOff_eq r t 0) (by omega)) $$ H
  iintro H
  iapply (piece_wp d i src dst s v z X _ (h 1) r (128 * t.val + 16 * 1) _ (rowOff_eq r t 1) (by omega)) $$ H
  iintro H
  iapply (piece_wp d i src dst s v z X _ (h 2) r (128 * t.val + 16 * 2) _ (rowOff_eq r t 2) (by omega)) $$ H
  iintro H
  iapply (piece_wp d i src dst s v z X _ (h 3) r (128 * t.val + 16 * 3) _ (rowOff_eq r t 3) (by omega)) $$ H
  iintro H
  iapply (piece_wp d i src dst s v z X _ (h 4) r (128 * t.val + 16 * 4) _ (rowOff_eq r t 4) (by omega)) $$ H
  iintro H
  iapply (piece_wp d i src dst s v z X _ (h 5) r (128 * t.val + 16 * 5) _ (rowOff_eq r t 5) (by omega)) $$ H
  iintro H
  iapply (piece_wp d i src dst s v z X _ (h 6) r (128 * t.val + 16 * 6) _ (rowOff_eq r t 6) (by omega)) $$ H
  iintro H
  iapply (piece_wp d i src dst s v z X _ (h 7) r (128 * t.val + 16 * 7) _ (rowOff_eq r t 7) (by omega)) $$ H
  iintro H
  rw [show 4096 * r + 128 * t.val + 16 + 16 + 16 + 16 + 16 + 16 + 16 + 16 = 4096 * r + 128 * (t.val + 1) by omega]
  iapply (le_wp_ret _ _ _)
  iexact H

/-- One row run. -/
theorem rowLoop_wp (r : ℕ) (h : ∀ (t : Fin k0_t1_loop.trips) (u : Fin 8), ∀ a, rowOff r t (BitVec.ofNat 32 (16 * u.val)) a + S1x16.size a ≤ S4x4096.size a)
    {β : Type} (k : BitVec 32 → Prog (TpuEff nD τ sig (Elt F) Λ₀ (thr d i).2) β) (Q : β → sProp 𝕄) :
    iprop(holds (thr d i) src X ∗ upTo (thr d i) dst (fun j => quant s v z (X j)) (4096 * r))
      ⊢ iprop((∀ b, iprop(holds (thr d i) src X ∗ upTo (thr d i) dst (fun j => quant s v z (X j)) (4096 * (r + 1)))
            -∗ wp frame (wpE (defs₀ (F := F)) 𝒱₀ (thr d i) none) Set.univ (k b) Q)
          -∗ wp frame (wpE (defs₀ (F := F)) 𝒱₀ (thr d i) none) Set.univ (rowLoop i src dst s v z r h >>= k) Q) :=
  Scf.wp_for_bind frame (wpE (defs₀ (F := F)) 𝒱₀ (thr d i) none) Set.univ _ _ _ k0_t1_ok 0#32 (fun t _ => rowBody i src dst s v z r t (h t))
    (fun n _ => iprop(holds (thr d i) src X ∗ upTo (thr d i) dst (fun j => quant s v z (X j)) (4096 * r + 128 * n)))
    (fun t _ => rowBody_wp d i src dst s v z X r t (h t))

/-- One block run. -/
theorem compute_wp {β : Type} (k : PUnit → Prog (TpuEff nD τ sig (Elt F) Λ₀ (thr d i).2) β) (Q : β → sProp 𝕄) :
    iprop(holds (thr d i) src X ∗ raw (thr d i) dst)
      ⊢ iprop((iprop(holds (thr d i) src X ∗ holds (thr d i) dst (fun j => quant s v z (X j)))
            -∗ wp frame (wpE (defs₀ (F := F)) 𝒱₀ (thr d i) none) Set.univ (k ⟨⟩) Q)
          -∗ wp frame (wpE (defs₀ (F := F)) 𝒱₀ (thr d i) none) Set.univ (compute i src dst s v z >>= k) Q) := by
  unfold compute
  simp only [bind_assoc]
  iintro ⟨Hs, Hd⟩ Hk
  ihave Hd := (raw_upTo (thr d i) dst fun j => quant s v z (X j)) $$ Hd
  iapply (rowLoop_wp d i src dst s v z X 0 (rowOff_inb 0)) $$ [Hs Hd]
  · isplitl [Hs] <;> iassumption
  iintro %b H
  iapply (rowLoop_wp d i src dst s v z X 1 (rowOff_inb 1)) $$ H
  iintro %b H
  iapply (rowLoop_wp d i src dst s v z X 2 (rowOff_inb 2)) $$ H
  iintro %b H
  iapply (rowLoop_wp d i src dst s v z X 3 (rowOff_inb 3)) $$ H
  iintro %b ⟨Hs, Hd⟩
  iapply Hk
  isplitl [Hs]; · iexact Hs
  iapply (upTo_holds (thr d i) dst _); iexact Hd

end Run

end Cert.Proof.Quant
-- ==== Proof.Body.lean ====
/-
  The SparseCore kernel's body with its steps named. `copyIn` and `copyOut` start a copy between a block of an array and
  a scratch block, `waitIn` and `waitOut` wait for one, `compute` is the arithmetic on a block. `tile` is the body in
  these steps, and `tile_eq` says that the kernel's own text is `tile`.
-/
module

public import proofs.«01_k».proof.Proof.Row

@[expose] public section

noncomputable section

namespace Cert.Proof.Quant

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The memrefs and the semaphores -/

abbrev mx : Memref sig .scVector .hbm S16384x4096 .f32 := Memref.whole main_v0_scv
abbrev ms : Memref sig .scVector .hbm S1 .f32 := Memref.whole main_arg1_scv
abbrev mz : Memref sig .scVector .hbm S1 .f32 := Memref.whole main_arg2_scv
abbrev mo : Memref sig .scVector .hbm S7168x4096 .f32 := Memref.whole main_v1_scv
abbrev bS : Memref sig .scVector .vmem S16 .f32 := Memref.whole cc0_scratch0
abbrev bZ : Memref sig .scVector .vmem S16 .f32 := Memref.whole cc0_scratch1
abbrev inA : Memref sig .scVector .vmem S4x4096 .f32 := Memref.whole cc0_scratch2
abbrev inB : Memref sig .scVector .vmem S4x4096 .f32 := Memref.whole cc0_scratch3
abbrev outA : Memref sig .scVector .vmem S4x4096 .f32 := Memref.whole cc0_scratch4
abbrev outB : Memref sig .scVector .vmem S4x4096 .f32 := Memref.whole cc0_scratch5

abbrev dsInA : DmaSem sig := cc0_scratch6.sem
abbrev dsInB : DmaSem sig := cc0_scratch7.sem
abbrev dsOutA : DmaSem sig := cc0_scratch8.sem
abbrev dsOutB : DmaSem sig := cc0_scratch9.sem

/-- Four rows of the operand from the offset `o`, and of the result. -/
abbrev xAt (o : Fin 2 → ℕ) (h : ∀ a, o a + S4x4096.size a ≤ S16384x4096.size a) : Memref sig .scVector .hbm S4x4096 .f32 :=
  mx.slice (Rect.unit (s := S16384x4096) o S4x4096.size h) (fun _ => rfl)
abbrev oAt (o : Fin 2 → ℕ) (h : ∀ a, o a + S4x4096.size a ≤ S7168x4096.size a) : Memref sig .scVector .hbm S4x4096 .f32 :=
  mo.slice (Rect.unit (s := S7168x4096) o S4x4096.size h) (fun _ => rfl)

/-- The first element of a table of sixteen, which is where a parameter is copied. -/
abbrev firstOf (b : Memref sig .scVector .vmem S16 .f32) : Memref sig .scVector .vmem S1 .f32 :=
  b.slice (Rect.unit (s := S16) ![0] S1.size inb_S16_S1_0) (fun _ => rfl)

section Program

variable (i : grid0.Coords)

def copyIn (src : Memref sig .scVector .hbm S4x4096 .f32) (dst : Memref sig .scVector .vmem S4x4096 .f32) (hdst : dst.IsWhole) (sem : DmaSem sig) :
    TileProg F i PUnit :=
  Prog.lift (.enqueueDma src (.here dst) (.dma sem) (View.wordExact_bits rfl) hdst.wordExact ⟨Or.inl rfl, trivial⟩)

def waitIn (src : Memref sig .scVector .hbm S4x4096 .f32) (dst : Memref sig .scVector .vmem S4x4096 .f32) (hdst : dst.IsWhole) (sem : DmaSem sig) :
    TileProg F i PUnit :=
  Prog.lift (.waitDma2 sem src dst (View.wordExact_bits rfl) hdst.wordExact)

def copyOut (src : Memref sig .scVector .vmem S4x4096 .f32) (hsrc : src.IsWhole) (dst : Memref sig .scVector .hbm S4x4096 .f32) (sem : DmaSem sig) :
    TileProg F i PUnit :=
  Prog.lift (.enqueueDma src (.here dst) (.dma sem) hsrc.wordExact (View.wordExact_bits rfl) ⟨Or.inl rfl, trivial⟩)

def waitOut (src : Memref sig .scVector .vmem S4x4096 .f32) (hsrc : src.IsWhole) (dst : Memref sig .scVector .hbm S4x4096 .f32) (sem : DmaSem sig) :
    TileProg F i PUnit :=
  Prog.lift (.waitDma2 sem src dst hsrc.wordExact (View.wordExact_bits rfl))

/-- One parameter copied into the first place of a table, and the copy waited for. -/
def fetch (src : Memref sig .scVector .hbm S1 .f32) (hsrc : src.IsWhole) (b : Memref sig .scVector .vmem S16 .f32) (sem : DmaSem sig) : TileProg F i PUnit := do
  Prog.lift (.enqueueDma src (.here (firstOf b)) (.dma sem) hsrc.wordExact (View.wordExact_bits rfl) ⟨Or.inl rfl, trivial⟩)
  Prog.lift (.waitDma2 sem src (firstOf b) hsrc.wordExact (View.wordExact_bits rfl))

/-- A table loaded. -/
def table (b : Memref sig .scVector .vmem S16 .f32) : TileProg F i (Vec F S16 .f32) :=
  Prog.lift (.load b (Rect.unit (s := S16) ![0] S16.size inb_S16_S16_0).toLoadRect (View.loadsAt_vmem h_S16))

/-- The first element of a table. -/
def first (x : Vec F S16 .f32) : F .f32 :=
  extractAt ![0] (extractStridedSlice S1 ![0] (shapeCast S16 x shapeCasts_S16_S16 : FVec F S16 .f32) slices_S16_o0_S1) inpos_S1_p0

/-- One over the first element of a table. -/
def firstInv (x : Vec F S16 .f32) : F .f32 :=
  extractAt ![0] (extractStridedSlice S1 ![0]
    (divf (broadcast S16 (Scalar.ofBits .f32 0x3F800000#32)) (shapeCast S16 x shapeCasts_S16_S16) : FVec F S16 .f32) slices_S16_o0_S1) inpos_S1_p0

/-- Block `w` of the operand and of the result among the first two and the last two of the tile. -/
abbrev xEnd (c : BitVec 32) (h : ∀ a, k0_off1 i c a + S4x4096.size a ≤ S16384x4096.size a) : Memref sig .scVector .hbm S4x4096 .f32 := xAt (k0_off1 i c) h
abbrev oEnd (c : BitVec 32) (h : ∀ a, k0_off6 i c a + S4x4096.size a ≤ S7168x4096.size a) : Memref sig .scVector .hbm S4x4096 .f32 := oAt (k0_off6 i c) h

/-- Before the loop: the parameters and the first two copies in. -/
def prologue : TileProg F i (F .f32 × F .f32 × F .f32) := do
  fetch i ms (Memref.isWhole_whole _) bS cc0_scoped0.sem
  fetch i mz (Memref.isWhole_whole _) bZ cc0_scoped1.sem
  let s ← table i bS
  let z ← table i bZ
  copyIn i (xEnd i 0#32 (k0_off1_inb i 0)) inA (Memref.isWhole_whole _) dsInA
  copyIn i (xEnd i 4#32 (k0_off1_inb i 1)) inB (Memref.isWhole_whole _) dsInB
  pure (first s, firstInv s, first z)

/-- One trip of the loop: two blocks. -/
def trip (s v z : F .f32) (t : Fin k0_t9_loop.trips) : TileProg F i (BitVec 32) := do
  waitIn i (xAt (k0_off11 i t 0#32) (k0_off11_inb i t 0)) inA (Memref.isWhole_whole _) dsInA
  waitOut i outA (Memref.isWhole_whole _) (oAt (k0_off12 i t 0#32) (k0_off12_inb i t 0)) dsOutA
  compute i inA outA s v z
  copyOut i outA (Memref.isWhole_whole _) (oAt (k0_off17 i t 0#32) (k0_off17_inb i t 0)) dsOutA
  copyIn i (xAt (k0_off18 i t 0#32) (k0_off18_inb i t 0)) inA (Memref.isWhole_whole _) dsInA
  waitIn i (xAt (k0_off11 i t 1#32) (k0_off11_inb i t 1)) inB (Memref.isWhole_whole _) dsInB
  waitOut i outB (Memref.isWhole_whole _) (oAt (k0_off12 i t 1#32) (k0_off12_inb i t 1)) dsOutB
  compute i inB outB s v z
  copyOut i outB (Memref.isWhole_whole _) (oAt (k0_off17 i t 1#32) (k0_off17_inb i t 1)) dsOutB
  copyIn i (xAt (k0_off18 i t 1#32) (k0_off18_inb i t 1)) inB (Memref.isWhole_whole _) dsInB
  pure 0#32

/-- The first two blocks, with no copy out to wait for. -/
def opening (s v z : F .f32) : TileProg F i PUnit := do
  waitIn i (xEnd i 0#32 (k0_off1_inb i 0)) inA (Memref.isWhole_whole _) dsInA
  compute i inA outA s v z
  copyOut i outA (Memref.isWhole_whole _) (oEnd i 0#32 (k0_off6_inb i 0)) dsOutA
  copyIn i (xEnd i 8#32 (k0_off1_inb i 2)) inA (Memref.isWhole_whole _) dsInA
  waitIn i (xEnd i 4#32 (k0_off1_inb i 1)) inB (Memref.isWhole_whole _) dsInB
  compute i inB outB s v z
  copyOut i outB (Memref.isWhole_whole _) (oEnd i 4#32 (k0_off6_inb i 1)) dsOutB
  copyIn i (xEnd i 12#32 (k0_off1_inb i 3)) inB (Memref.isWhole_whole _) dsInB

/-- The last two blocks, with no copy in to start, and the last two copies out waited for. -/
def closing (s v z : F .f32) : TileProg F i PUnit := do
  waitIn i (xEnd i 216#32 (k0_off1_inb i 4)) inA (Memref.isWhole_whole _) dsInA
  waitOut i outA (Memref.isWhole_whole _) (oEnd i 208#32 (k0_off6_inb i 2)) dsOutA
  compute i inA outA s v z
  copyOut i outA (Memref.isWhole_whole _) (oEnd i 216#32 (k0_off6_inb i 3)) dsOutA
  waitIn i (xEnd i 220#32 (k0_off1_inb i 5)) inB (Memref.isWhole_whole _) dsInB
  waitOut i outB (Memref.isWhole_whole _) (oEnd i 212#32 (k0_off6_inb i 4)) dsOutB
  compute i inB outB s v z
  copyOut i outB (Memref.isWhole_whole _) (oEnd i 220#32 (k0_off6_inb i 5)) dsOutB
  waitOut i outA (Memref.isWhole_whole _) (oEnd i 216#32 (k0_off6_inb i 3)) dsOutA
  waitOut i outB (Memref.isWhole_whole _) (oEnd i 220#32 (k0_off6_inb i 5)) dsOutB

/-- The body. -/
def tile : TileProg F i PUnit := do
  let p ← prologue i
  opening i p.1 p.2.1 p.2.2
  let _ ← Scf.Loop.for k0_t9_loop k0_t9_ok 0#32 fun t _ => trip i p.1 p.2.1 p.2.2 t
  closing i p.1 p.2.1 p.2.2

end Program

/-! ## The kernel's text in these steps -/

theorem part75_eq (i : grid0.Coords) : k0_part75 (F := F) i mx (Memref.isWhole_whole _) ms (Memref.isWhole_whole _) mz (Memref.isWhole_whole _) mo (Memref.isWhole_whole _) bS (Memref.isWhole_whole _) bZ (Memref.isWhole_whole _) inA (Memref.isWhole_whole _) inB (Memref.isWhole_whole _) outA (Memref.isWhole_whole _) outB (Memref.isWhole_whole _) cc0_scratch6 cc0_scratch7 cc0_scratch8 cc0_scratch9 cc0_scoped0 cc0_scoped1
    = (do let p ← prologue i; pure ⟨Scalar.addi 9216#32 (Scalar.muli (Scalar.addi (Scalar.muli (BitVec.ofNat 32 (i 1).val) 2#32) (BitVec.ofNat 32 (i 0).val)) 224#32),
            Scalar.muli (Scalar.addi (Scalar.muli (BitVec.ofNat 32 (i 1).val) 2#32) (BitVec.ofNat 32 (i 0).val)) 224#32, p.1, p.2.1, p.2.2⟩) := rfl

theorem part76_eq (i : grid0.Coords) (a b : BitVec 32) (s v z : F .f32) : k0_part76 (F := F) i mx (Memref.isWhole_whole _) ms (Memref.isWhole_whole _) mz (Memref.isWhole_whole _) mo (Memref.isWhole_whole _) bS (Memref.isWhole_whole _) bZ (Memref.isWhole_whole _) inA (Memref.isWhole_whole _) inB (Memref.isWhole_whole _) outA (Memref.isWhole_whole _) outB (Memref.isWhole_whole _) cc0_scratch6 cc0_scratch7 cc0_scratch8 cc0_scratch9 cc0_scoped0 cc0_scoped1 a b s v z
    = (do
      waitIn i (xEnd i 0#32 (k0_off1_inb i 0)) inA (Memref.isWhole_whole _) dsInA
      let _ ← rowLoop i inA outA s v z 0 (rowOff_inb 0)
      let _ ← rowLoop i inA outA s v z 1 (rowOff_inb 1)
      let _ ← rowLoop i inA outA s v z 2 (rowOff_inb 2)
      let _ ← rowLoop i inA outA s v z 3 (rowOff_inb 3)
      copyOut i outA (Memref.isWhole_whole _) (oEnd i 0#32 (k0_off6_inb i 0)) dsOutA
      copyIn i (xEnd i 8#32 (k0_off1_inb i 2)) inA (Memref.isWhole_whole _) dsInA
      waitIn i (xEnd i 4#32 (k0_off1_inb i 1)) inB (Memref.isWhole_whole _) dsInB
      pure ⟨0#32, 0#32⟩) := rfl

/-- The loop's two halves and its text. -/
theorem part49_eq (i : grid0.Coords) (a b c e : BitVec 32) (s v z : F .f32) (t : Fin k0_t9_loop.trips) : k0_part49 (F := F) i mx (Memref.isWhole_whole _) ms (Memref.isWhole_whole _) mz (Memref.isWhole_whole _) mo (Memref.isWhole_whole _) bS (Memref.isWhole_whole _) bZ (Memref.isWhole_whole _) inA (Memref.isWhole_whole _) inB (Memref.isWhole_whole _) outA (Memref.isWhole_whole _) outB (Memref.isWhole_whole _) cc0_scratch6 cc0_scratch7 cc0_scratch8 cc0_scratch9 cc0_scoped0 cc0_scoped1 a b s v z c e t
    = (do
      waitIn i (xAt (k0_off11 i t 0#32) (k0_off11_inb i t 0)) inA (Memref.isWhole_whole _) dsInA
      waitOut i outA (Memref.isWhole_whole _) (oAt (k0_off12 i t 0#32) (k0_off12_inb i t 0)) dsOutA
      let _ ← rowLoop i inA outA s v z 0 (rowOff_inb 0)
      let _ ← rowLoop i inA outA s v z 1 (rowOff_inb 1)
      let _ ← rowLoop i inA outA s v z 2 (rowOff_inb 2)
      let _ ← rowLoop i inA outA s v z 3 (rowOff_inb 3)
      copyOut i outA (Memref.isWhole_whole _) (oAt (k0_off17 i t 0#32) (k0_off17_inb i t 0)) dsOutA
      pure ⟨Scf.iv c e t, Scalar.addi (Scalar.muli 2#32 (Scf.iv c e t)) 0#32, 2#32⟩) := rfl

theorem part50_eq (i : grid0.Coords) (a b c e g : BitVec 32) (s v z : F .f32) (t : Fin k0_t9_loop.trips) : k0_part50 (F := F) i mx (Memref.isWhole_whole _) ms (Memref.isWhole_whole _) mz (Memref.isWhole_whole _) mo (Memref.isWhole_whole _) bS (Memref.isWhole_whole _) bZ (Memref.isWhole_whole _) inA (Memref.isWhole_whole _) inB (Memref.isWhole_whole _) outA (Memref.isWhole_whole _) outB (Memref.isWhole_whole _) cc0_scratch6 cc0_scratch7 cc0_scratch8 cc0_scratch9 cc0_scoped0 cc0_scoped1 a b s v z t c e g
    = (do
      copyIn i (xAt (k0_off18 i t 0#32) (k0_off18_inb i t 0)) inA (Memref.isWhole_whole _) dsInA
      waitIn i (xAt (k0_off11 i t 1#32) (k0_off11_inb i t 1)) inB (Memref.isWhole_whole _) dsInB
      waitOut i outB (Memref.isWhole_whole _) (oAt (k0_off12 i t 1#32) (k0_off12_inb i t 1)) dsOutB
      let _ ← rowLoop i inB outB s v z 0 (rowOff_inb 0)
      let _ ← rowLoop i inB outB s v z 1 (rowOff_inb 1)
      let _ ← rowLoop i inB outB s v z 2 (rowOff_inb 2)
      let _ ← rowLoop i inB outB s v z 3 (rowOff_inb 3)
      pure ⟨Scalar.addi (Scalar.muli 2#32 c) 1#32, 4#32⟩) := rfl

theorem part77_eq (i : grid0.Coords) (a b : BitVec 32) (s v z : F .f32) : k0_part77 (F := F) i mx (Memref.isWhole_whole _) ms (Memref.isWhole_whole _) mz (Memref.isWhole_whole _) mo (Memref.isWhole_whole _) bS (Memref.isWhole_whole _) bZ (Memref.isWhole_whole _) inA (Memref.isWhole_whole _) inB (Memref.isWhole_whole _) outA (Memref.isWhole_whole _) outB (Memref.isWhole_whole _) cc0_scratch6 cc0_scratch7 cc0_scratch8 cc0_scratch9 cc0_scoped0 cc0_scoped1 a b s v z 0#32 0#32
    = (do
      let _ ← rowLoop i inB outB s v z 0 (rowOff_inb 0)
      let _ ← rowLoop i inB outB s v z 1 (rowOff_inb 1)
      let _ ← rowLoop i inB outB s v z 2 (rowOff_inb 2)
      let _ ← rowLoop i inB outB s v z 3 (rowOff_inb 3)
      copyOut i outB (Memref.isWhole_whole _) (oEnd i 4#32 (k0_off6_inb i 1)) dsOutB
      copyIn i (xEnd i 12#32 (k0_off1_inb i 3)) inB (Memref.isWhole_whole _) dsInB
      let _ ← Scf.Loop.for k0_t9_loop k0_t9_ok 0#32 fun t _ => (do
        let p ← k0_part49 i mx (Memref.isWhole_whole _) ms (Memref.isWhole_whole _) mz (Memref.isWhole_whole _) mo (Memref.isWhole_whole _) bS (Memref.isWhole_whole _) bZ (Memref.isWhole_whole _) inA (Memref.isWhole_whole _) inB (Memref.isWhole_whole _) outA (Memref.isWhole_whole _) outB (Memref.isWhole_whole _) cc0_scratch6 cc0_scratch7 cc0_scratch8 cc0_scratch9 cc0_scoped0 cc0_scoped1 a b s v z 1#32 1#32 t
        let q ← k0_part50 i mx (Memref.isWhole_whole _) ms (Memref.isWhole_whole _) mz (Memref.isWhole_whole _) mo (Memref.isWhole_whole _) bS (Memref.isWhole_whole _) bZ (Memref.isWhole_whole _) inA (Memref.isWhole_whole _) inB (Memref.isWhole_whole _) outA (Memref.isWhole_whole _) outB (Memref.isWhole_whole _) cc0_scratch6 cc0_scratch7 cc0_scratch8 cc0_scratch9 cc0_scoped0 cc0_scoped1 a b s v z t p.1 p.2.1 p.2.2
        copyOut i outB (Memref.isWhole_whole _) (oAt (k0_off17 i t 1#32) (k0_off17_inb i t 1)) dsOutB
        copyIn i (xAt (k0_off18 i t 1#32) (k0_off18_inb i t 1)) inB (Memref.isWhole_whole _) dsInB
        pure 0#32)
      waitIn i (xEnd i 216#32 (k0_off1_inb i 4)) inA (Memref.isWhole_whole _) dsInA
      waitOut i outA (Memref.isWhole_whole _) (oEnd i 208#32 (k0_off6_inb i 2)) dsOutA
      pure 0#32) := rfl

theorem part78_eq (i : grid0.Coords) (a b : BitVec 32) (s v z : F .f32) : k0_part78 (F := F) i mx (Memref.isWhole_whole _) ms (Memref.isWhole_whole _) mz (Memref.isWhole_whole _) mo (Memref.isWhole_whole _) bS (Memref.isWhole_whole _) bZ (Memref.isWhole_whole _) inA (Memref.isWhole_whole _) inB (Memref.isWhole_whole _) outA (Memref.isWhole_whole _) outB (Memref.isWhole_whole _) cc0_scratch6 cc0_scratch7 cc0_scratch8 cc0_scratch9 cc0_scoped0 cc0_scoped1 a b s v z 0#32
    = (do
      let _ ← rowLoop i inA outA s v z 0 (rowOff_inb 0)
      let _ ← rowLoop i inA outA s v z 1 (rowOff_inb 1)
      let _ ← rowLoop i inA outA s v z 2 (rowOff_inb 2)
      let _ ← rowLoop i inA outA s v z 3 (rowOff_inb 3)
      copyOut i outA (Memref.isWhole_whole _) (oEnd i 216#32 (k0_off6_inb i 3)) dsOutA
      waitIn i (xEnd i 220#32 (k0_off1_inb i 5)) inB (Memref.isWhole_whole _) dsInB
      waitOut i outB (Memref.isWhole_whole _) (oEnd i 212#32 (k0_off6_inb i 4)) dsOutB
      let _ ← rowLoop i inB outB s v z 0 (rowOff_inb 0)
      pure ⟨0#32, 0#32, 1#32⟩) := rfl

/-- The body as its parts, with the last rows' loops named. -/
theorem parts_eq (i : grid0.Coords) : cc0_k (F := F) i mx (Memref.isWhole_whole _) ms (Memref.isWhole_whole _) mz (Memref.isWhole_whole _) mo (Memref.isWhole_whole _) bS (Memref.isWhole_whole _) bZ (Memref.isWhole_whole _) inA (Memref.isWhole_whole _) inB (Memref.isWhole_whole _) outA (Memref.isWhole_whole _) outB (Memref.isWhole_whole _) cc0_scratch6 cc0_scratch7 cc0_scratch8 cc0_scratch9 cc0_scoped0 cc0_scoped1
    = (do
      let p ← k0_part75 i mx (Memref.isWhole_whole _) ms (Memref.isWhole_whole _) mz (Memref.isWhole_whole _) mo (Memref.isWhole_whole _) bS (Memref.isWhole_whole _) bZ (Memref.isWhole_whole _) inA (Memref.isWhole_whole _) inB (Memref.isWhole_whole _) outA (Memref.isWhole_whole _) outB (Memref.isWhole_whole _) cc0_scratch6 cc0_scratch7 cc0_scratch8 cc0_scratch9 cc0_scoped0 cc0_scoped1
      let q ← k0_part76 i mx (Memref.isWhole_whole _) ms (Memref.isWhole_whole _) mz (Memref.isWhole_whole _) mo (Memref.isWhole_whole _) bS (Memref.isWhole_whole _) bZ (Memref.isWhole_whole _) inA (Memref.isWhole_whole _) inB (Memref.isWhole_whole _) outA (Memref.isWhole_whole _) outB (Memref.isWhole_whole _) cc0_scratch6 cc0_scratch7 cc0_scratch8 cc0_scratch9 cc0_scoped0 cc0_scoped1 p.1 p.2.1 p.2.2.1 p.2.2.2.1 p.2.2.2.2
      let r ← k0_part77 i mx (Memref.isWhole_whole _) ms (Memref.isWhole_whole _) mz (Memref.isWhole_whole _) mo (Memref.isWhole_whole _) bS (Memref.isWhole_whole _) bZ (Memref.isWhole_whole _) inA (Memref.isWhole_whole _) inB (Memref.isWhole_whole _) outA (Memref.isWhole_whole _) outB (Memref.isWhole_whole _) cc0_scratch6 cc0_scratch7 cc0_scratch8 cc0_scratch9 cc0_scoped0 cc0_scoped1 p.1 p.2.1 p.2.2.1 p.2.2.2.1 p.2.2.2.2 q.1 q.2
      let u ← k0_part78 i mx (Memref.isWhole_whole _) ms (Memref.isWhole_whole _) mz (Memref.isWhole_whole _) mo (Memref.isWhole_whole _) bS (Memref.isWhole_whole _) bZ (Memref.isWhole_whole _) inA (Memref.isWhole_whole _) inB (Memref.isWhole_whole _) outA (Memref.isWhole_whole _) outB (Memref.isWhole_whole _) cc0_scratch6 cc0_scratch7 cc0_scratch8 cc0_scratch9 cc0_scoped0 cc0_scoped1 p.1 p.2.1 p.2.2.1 p.2.2.2.1 p.2.2.2.2 r
      let _ ← Scf.Loop.for k0_t1_loop k0_t1_ok u.1 fun t _ => rowBody i inB outB p.2.2.1 p.2.2.2.1 p.2.2.2.2 1 t (rowOff_inb 1 t)
      let _ ← rowLoop i inB outB p.2.2.1 p.2.2.2.1 p.2.2.2.2 2 (rowOff_inb 2)
      let _ ← rowLoop i inB outB p.2.2.1 p.2.2.2.1 p.2.2.2.2 3 (rowOff_inb 3)
      copyOut i outB (Memref.isWhole_whole _) (oEnd i 220#32 (k0_off6_inb i 5)) dsOutB
      waitOut i outA (Memref.isWhole_whole _) (oEnd i 216#32 (k0_off6_inb i 3)) dsOutA
      waitOut i outB (Memref.isWhole_whole _) (oEnd i 220#32 (k0_off6_inb i 5)) dsOutB) := rfl

theorem tile_eq (i : grid0.Coords) : cc0_k (F := F) i mx (Memref.isWhole_whole _) ms (Memref.isWhole_whole _) mz (Memref.isWhole_whole _) mo (Memref.isWhole_whole _) bS (Memref.isWhole_whole _) bZ (Memref.isWhole_whole _) inA (Memref.isWhole_whole _) inB (Memref.isWhole_whole _) outA (Memref.isWhole_whole _) outB (Memref.isWhole_whole _) cc0_scratch6 cc0_scratch7 cc0_scratch8 cc0_scratch9 cc0_scoped0 cc0_scoped1 = tile i := by
  rw [parts_eq]
  simp only [part75_eq, part76_eq, part77_eq, part78_eq, part49_eq, part50_eq, tile, opening, closing, trip, compute, rowLoop, bind_assoc, pure_bind]

end Cert.Proof.Quant
-- ==== Proof.Copies.lean ====
/-
  The SparseCore kernel's copies. A tile holds ranges of rows of the operand (`xPt`) and of the result (`oPt`); a copy of
  four rows takes them out of the range and, when it is waited for, gives them back: copied into a scratch block that then
  reads `blk`, or written with the result `out`.
-/
module

public import proofs.«01_k».proof.Proof.Body
public import Idealize.ShloMosaic.Lib.Pipeline.Value

@[expose] public section

noncomputable section

namespace Cert.Proof.Quant

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Rows -/

/-- The rows from `a` to before `b` of the operand, and of the result. -/
def xRows (a b : ℕ) : Finset S16384x4096.Idx := Finset.univ.filter fun y => a ≤ (y 0).val ∧ (y 0).val < b
def oRows (a b : ℕ) : Finset S7168x4096.Idx := Finset.univ.filter fun y => a ≤ (y 0).val ∧ (y 0).val < b

theorem mem_xRows {a b : ℕ} {y : S16384x4096.Idx} : y ∈ xRows a b ↔ a ≤ (y 0).val ∧ (y 0).val < b := by simp [xRows]
theorem mem_oRows {a b : ℕ} {y : S7168x4096.Idx} : y ∈ oRows a b ↔ a ≤ (y 0).val ∧ (y 0).val < b := by simp [oRows]

theorem xRows_union {a b c : ℕ} (h : a ≤ b) (h' : b ≤ c) : xRows a c = xRows a b ∪ xRows b c := by
  ext y; simp only [Finset.mem_union, mem_xRows]; omega
theorem oRows_union {a b c : ℕ} (h : a ≤ b) (h' : b ≤ c) : oRows a c = oRows a b ∪ oRows b c := by
  ext y; simp only [Finset.mem_union, mem_oRows]; omega
theorem xRows_disjoint {a b c e : ℕ} (h : b ≤ c) : Disjoint (xRows a b) (xRows c e) := by
  refine Finset.disjoint_left.2 fun y => ?_
  simp only [mem_xRows]; omega
theorem oRows_disjoint {a b c e : ℕ} (h : b ≤ c) : Disjoint (oRows a b) (oRows c e) := by
  refine Finset.disjoint_left.2 fun y => ?_
  simp only [mem_oRows]; omega

/-- An element of four rows from row `n`, by its place in the block. -/
theorem xAt_emb {n : ℕ} (h : ∀ a, ![n, 0] a + S4x4096.size a ≤ S16384x4096.size a) (x : S4x4096.Idx) :
    ((xAt ![n, 0] h).view.emb x 0).val = n + (x 0).val ∧ ((xAt ![n, 0] h).view.emb x 1).val = (x 1).val := by
  constructor
  · show n + 1 * (x 0).val = _; omega
  · show 0 + 1 * (x 1).val = _; omega
theorem oAt_emb {n : ℕ} (h : ∀ a, ![n, 0] a + S4x4096.size a ≤ S7168x4096.size a) (x : S4x4096.Idx) :
    ((oAt ![n, 0] h).view.emb x 0).val = n + (x 0).val ∧ ((oAt ![n, 0] h).view.emb x 1).val = (x 1).val := by
  constructor
  · show n + 1 * (x 0).val = _; omega
  · show 0 + 1 * (x 1).val = _; omega

/-- The place in a block of an element of the four rows from row `n`. -/
def place (n r c : ℕ) (hr : n ≤ r ∧ r < n + 4) (hc : c < 4096) : S4x4096.Idx
  | 0 => ⟨r - n, show r - n < 4 by omega⟩
  | 1 => ⟨c, hc⟩

/-- The elements of four rows from row `n`. -/
theorem xAt_set {n : ℕ} (h : ∀ a, ![n, 0] a + S4x4096.size a ≤ S16384x4096.size a) : (xAt ![n, 0] h).view.set = xRows n (n + 4) := by
  ext y
  rw [mem_xRows]
  refine Finset.mem_map.trans ⟨?_, fun hy => ?_⟩
  · rintro ⟨x, -, rfl⟩
    have := (xAt_emb h x).1
    have hx : (x 0).val < 4 := (x 0).isLt
    omega
  · refine ⟨place n (y 0).val (y 1).val hy (y 1).isLt, Finset.mem_univ _, ?_⟩
    have e := xAt_emb h (place n (y 0).val (y 1).val hy (y 1).isLt)
    refine Shape.idx_ext₂ (e.1.trans ?_) e.2
    show n + ((y 0).val - n) = _; omega
theorem oAt_set {n : ℕ} (h : ∀ a, ![n, 0] a + S4x4096.size a ≤ S7168x4096.size a) : (oAt ![n, 0] h).view.set = oRows n (n + 4) := by
  ext y
  rw [mem_oRows]
  refine Finset.mem_map.trans ⟨?_, fun hy => ?_⟩
  · rintro ⟨x, -, rfl⟩
    have := (oAt_emb h x).1
    have hx : (x 0).val < 4 := (x 0).isLt
    omega
  · refine ⟨place n (y 0).val (y 1).val hy (y 1).isLt, Finset.mem_univ _, ?_⟩
    have e := oAt_emb h (place n (y 0).val (y 1).val hy (y 1).isLt)
    refine Shape.idx_ext₂ (e.1.trans ?_) e.2
    show n + ((y 0).val - n) = _; omega

/-! ## Contents -/

/-- Row `n + j 0` of the operand, counted round its end. -/
def xIdx (n : ℕ) (j : S4x4096.Idx) : S16384x4096.Idx
  | 0 => ⟨(n + (j 0).val) % 16384, Nat.mod_lt _ (by decide)⟩
  | 1 => ⟨(j 1).val, (j 1).isLt⟩

/-- The four rows of the operand from row `n`. -/
def blk (X : S16384x4096.Idx → F .f32) (n : ℕ) (j : S4x4096.Idx) : F .f32 := X (xIdx n j)

/-- The element of the operand that an element of the SparseCore's result is of. -/
def up (y : S7168x4096.Idx) : S16384x4096.Idx
  | 0 => ⟨9216 + (y 0).val, by have h : (y 0).val < 7168 := (y 0).isLt; show _ < 16384; omega⟩
  | 1 => ⟨(y 1).val, (y 1).isLt⟩

/-- The SparseCore's result. -/
def out (s v z : F .f32) [FloatOps F] (X : S16384x4096.Idx → F .f32) (y : S7168x4096.Idx) : F .f32 := quant s v z (X (up y))

theorem xAt_read {n : ℕ} (h : ∀ a, ![n, 0] a + S4x4096.size a ≤ S16384x4096.size a) (X : S16384x4096.Idx → F .f32) :
    (xAt ![n, 0] h).view.read (Elt F) X = blk X n := by
  funext j
  have e := xAt_emb h j
  refine congrArg X (Shape.idx_ext₂ (e.1.trans ?_) e.2)
  have := h 0
  have hj : (j 0).val < 4 := (j 0).isLt
  have h4 : n + 4 ≤ 16384 := this
  show _ = (n + (j 0).val) % 16384
  omega

theorem up_oAt {n : ℕ} (h : ∀ a, ![n, 0] a + S4x4096.size a ≤ S7168x4096.size a) (j : S4x4096.Idx) :
    up ((oAt ![n, 0] h).view.emb j) = xIdx (9216 + n) j := by
  have e := oAt_emb h j
  refine Shape.idx_ext₂ ?_ e.2
  have h4 : n + 4 ≤ 7168 := h 0
  have hj : (j 0).val < 4 := (j 0).isLt
  show 9216 + ((oAt ![n, 0] h).view.emb j 0).val = (9216 + n + (j 0).val) % 16384
  rw [e.1]; omega

/-- What a copy of four rows into the result credits its semaphore with. -/
def credit : ℕ := (oAt ![0, 0] (by decide)).view.dmaCredit

/-! ## What a tile holds -/

section Tile

variable (d : Dev nD) (i : grid0.Coords) (s v z : F .f32) (X : S16384x4096.Idx → F .f32)

/-- Rows of the operand, at its contents. -/
def xPt (a b : ℕ) : sProp 𝕄 := (mx.view.loc (thr d i) ↦[xRows a b]{fullShare} X)
/-- Rows of the result, at the result. -/
def oPt (a b : ℕ) : sProp 𝕄 := (mo.view.loc (thr d i) ↦[oRows a b]{fullShare} out s v z X)
/-- Rows of the result, at contents not known. -/
def oRaw (F : FTy → Type) (a b : ℕ) : sProp (MT nD τ sig (HIx 1) (Elt F) ℕ UU ℕ) := iprop(∃ f, (mo.view.loc (thr d i) ↦[oRows a b]{fullShare} f))
/-- A semaphore of the tile at zero. -/
def idle (F : FTy → Type) (sem : DmaSem sig) : sProp (MT nD τ sig (HIx 1) (Elt F) ℕ UU ℕ) := semVal (thr d i, .dma sem) 0

theorem xPt_split {a b c : ℕ} (h : a ≤ b) (h' : b ≤ c) : xPt d i X a c ⊣⊢ iprop(xPt d i X a b ∗ xPt d i X b c) := by
  unfold xPt; rw [xRows_union h h']; exact pointsTo_union (xRows_disjoint (le_refl b))
theorem oPt_split {a b c : ℕ} (h : a ≤ b) (h' : b ≤ c) : oPt d i s v z X a c ⊣⊢ iprop(oPt d i s v z X a b ∗ oPt d i s v z X b c) := by
  unfold oPt; rw [oRows_union h h']; exact pointsTo_union (oRows_disjoint (le_refl b))
theorem oRaw_split {a b c : ℕ} (h : a ≤ b) (h' : b ≤ c) : oRaw d i F a c ⊢ iprop(oRaw d i F a b ∗ oRaw d i F b c) := by
  unfold oRaw
  iintro ⟨%f, H⟩
  rw [oRows_union h h']
  ihave H := (pointsTo_union (oRows_disjoint (le_refl b))).1 $$ H
  icases H with ⟨H1, H2⟩
  isplitl [H1]
  · iexists f; iexact H1
  · iexists f; iexact H2
theorem xPt_empty (a : ℕ) : ⊢ xPt d i X a a := by
  unfold xPt
  rw [show xRows a a = ∅ from by ext y; simp only [mem_xRows]; simp, pointsTo_empty]
  exact Entails.of_eq rfl
theorem oPt_empty (a : ℕ) : ⊢ oPt d i s v z X a a := by
  unfold oPt
  rw [show oRows a a = ∅ from by ext y; simp only [mem_oRows]; simp, pointsTo_empty]
  exact Entails.of_eq rfl

/-- A copy of the four rows from row `n` into a scratch block, under way. -/
def coming (sem : DmaSem sig) (dst : Memref sig .scVector .vmem S4x4096 .f32) (n : ℕ) : sProp 𝕄 :=
  Transfers.Flight countersEmb (thr d i) (.dma sem) (default : HIx 1) dst.view.dmaCredit iprop(holds (thr d i) dst (blk X n) ∗ xPt d i X n (n + 4))
/-- A copy of a scratch block into the four rows from row `n` of the result, under way. -/
def going (sem : DmaSem sig) (src : Memref sig .scVector .vmem S4x4096 .f32) (n : ℕ) : sProp 𝕄 :=
  Transfers.Flight countersEmb (thr d i) (.dma sem) (default : HIx 1) credit iprop(raw (thr d i) src ∗ oPt d i s v z X n (n + 4))

/-- What the tile owes, and that it may wait. -/
def ow (F : FTy → Type) (O : CellTallies nD τ sig (HIx 1)) (W : Waits sig (HIx 1)) : sProp (MT nD τ sig (HIx 1) (Elt F) ℕ UU ℕ) :=
  iprop(Transfers.MayWaits (thr d i) (default : HIx 1) O ∗ ∃ W', ⌜∀ p ∈ W', p ∈ W ∨ p.2 = none⌝ ∗ owes (thr d i) O W')

theorem copyIn_wp {o : Fin 2 → ℕ} (h : ∀ a, o a + S4x4096.size a ≤ S16384x4096.size a) (n : ℕ) (ho : o = ![n, 0])
    (dst : Memref sig .scVector .vmem S4x4096 .f32) (hdst : dst.IsWhole) (sem : DmaSem sig)
    {β : Type} (k : PUnit → Prog (TpuEff nD τ sig (Elt F) Λ₀ (thr d i).2) β) (Q : β → sProp 𝕄) :
    iprop(xPt d i X n (n + 4) ∗ raw (thr d i) dst ∗ idle d i F sem)
      ⊢ iprop((coming d i X sem dst n -∗ wp frame (wpE (defs₀ (F := F)) 𝒱₀ (thr d i) none) Set.univ (k ⟨⟩) Q)
          -∗ wp frame (wpE (defs₀ (F := F)) 𝒱₀ (thr d i) none) Set.univ (copyIn i (xAt o h) dst hdst sem >>= k) Q) := by
  subst ho
  unfold raw idle
  iintro ⟨Hx, ⟨%f, Hd⟩, Hs⟩ Hk
  ihave Hx := (Entails.of_eq (show xPt d i X n (n + 4) = ((xAt ![n, 0] h).view.loc (thr d i) ↦[(xAt ![n, 0] h).view.set]{fullShare} X) from by rw [xAt_set]; rfl)) $$ Hx
  have hN : dst.view.amount (.dma sem) = dst.view.dmaCredit := rfl
  iapply (Transfers.wp_dmaLocal countersEmb 𝒱₀ (thr d i) none (src := xAt ![n, 0] h) (dst := dst) (sm := .dma sem) (default : HIx 1) dst.view.dmaCredit hN
    (View.amount_pos dst.view (.dma sem) (by decide)) (le_refl _)) $$ [Hx Hd Hs]
  · isplitl [Hx]; · iexact Hx
    isplitl [Hd] <;> iassumption
  iintro Hf
  iapply Hk
  unfold coming
  iapply (Transfers.Flight_mono ?_) $$ Hf
  unfold holds
  iintro ⟨Hd, Hx⟩
  isplitl [Hd]
  · iexists _
    isplitl [Hd]; · iexact Hd
    ipureintro
    refine (View.read_write_univ (v := dst.view) (Val := Elt F) f _).trans ?_
    exact xAt_read h X
  · iapply (Entails.of_eq (show ((xAt ![n, 0] h).view.loc (thr d i) ↦[(xAt ![n, 0] h).view.set]{fullShare} X : sProp 𝕄) = xPt d i X n (n + 4) from by rw [xAt_set]; rfl))
    iexact Hx

theorem waitIn_wp {O : CellTallies nD τ sig (HIx 1)} {W : Waits sig (HIx 1)} (src : Memref sig .scVector .hbm S4x4096 .f32) (n : ℕ)
    (dst : Memref sig .scVector .vmem S4x4096 .f32) (hdst : dst.IsWhole) (sem : DmaSem sig)
    {β : Type} (k : PUnit → Prog (TpuEff nD τ sig (Elt F) Λ₀ (thr d i).2) β) (Q : β → sProp 𝕄) :
    iprop(coming d i X sem dst n ∗ ow d i F O W)
      ⊢ iprop((iprop(holds (thr d i) dst (blk X n) ∗ xPt d i X n (n + 4) ∗ idle d i F sem ∗ ow d i F O W)
            -∗ wp frame (wpE (defs₀ (F := F)) 𝒱₀ (thr d i) none) Set.univ (k ⟨⟩) Q)
          -∗ wp frame (wpE (defs₀ (F := F)) 𝒱₀ (thr d i) none) Set.univ (waitIn i src dst hdst sem >>= k) Q) := by
  unfold coming ow idle
  iintro ⟨Hf, #Hm, %W', %hW, HO⟩ Hk
  iapply (Transfers.wp_waitLocalO countersEmb 𝒱₀ (thr d i) none (default : HIx 1) (dstw := dst) (show dst.view.dmaCredit = dst.view.dmaCredit from Eq.refl _)) $$ [Hf HO]
  · isplitl [Hf]; · iexact Hf
    isplitl [HO]; · iexact HO
    iapply (Transfers.MayWaits.elim (SemLoc.dma sem)) $$ Hm
  iintro ⟨⟨Hd, Hx⟩, Hs, HO⟩
  iapply Hk
  isplitl [Hd]; · iexact Hd
  isplitl [Hx]; · iexact Hx
  isplitl [Hs]; · iexact Hs
  isplitr; · iexact Hm
  iexists (insert (SemLoc.dma sem, (default : HIx 1)) W')
  isplitr
  · ipureintro
    intro p hp
    rcases Finset.mem_insert.1 hp with rfl | hp
    · exact Or.inr rfl
    · exact hW p hp
  · iexact HO

theorem copyOut_wp {o : Fin 2 → ℕ} (h : ∀ a, o a + S4x4096.size a ≤ S7168x4096.size a) (n : ℕ) (ho : o = ![n, 0])
    (src : Memref sig .scVector .vmem S4x4096 .f32) (hsrc : src.IsWhole) (sem : DmaSem sig)
    {β : Type} (k : PUnit → Prog (TpuEff nD τ sig (Elt F) Λ₀ (thr d i).2) β) (Q : β → sProp 𝕄) :
    iprop(holds (thr d i) src (fun j => quant s v z (blk X (9216 + n) j)) ∗ oRaw d i F n (n + 4) ∗ idle d i F sem)
      ⊢ iprop((going d i s v z X sem src n -∗ wp frame (wpE (defs₀ (F := F)) 𝒱₀ (thr d i) none) Set.univ (k ⟨⟩) Q)
          -∗ wp frame (wpE (defs₀ (F := F)) 𝒱₀ (thr d i) none) Set.univ (copyOut i src hsrc (oAt o h) sem >>= k) Q) := by
  subst ho
  unfold holds oRaw idle
  iintro ⟨⟨%g, Hb, %hg⟩, ⟨%f, Ho⟩, Hs⟩ Hk
  ihave Ho := (Entails.of_eq (show (mo.view.loc (thr d i) ↦[oRows n (n + 4)]{fullShare} f : sProp 𝕄)
    = ((oAt ![n, 0] h).view.loc (thr d i) ↦[(oAt ![n, 0] h).view.set]{fullShare} f) from by rw [oAt_set])) $$ Ho
  have hN : (oAt ![n, 0] h).view.amount (.dma sem) = credit := rfl
  iapply (Transfers.wp_dmaLocal countersEmb 𝒱₀ (thr d i) none (src := src) (dst := oAt ![n, 0] h) (sm := .dma sem) (default : HIx 1) credit hN
    (View.amount_pos (oAt ![n, 0] h).view (.dma sem) (by decide)) (le_refl _)) $$ [Hb Ho Hs]
  · isplitl [Hb]; · iexact Hb
    isplitl [Ho] <;> iassumption
  iintro Hf
  iapply Hk
  unfold going
  iapply (Transfers.Flight_mono ?_) $$ Hf
  unfold raw
  iintro ⟨Ho, Hb⟩
  isplitl [Hb]
  · iexists _; iexact Hb
  · have e : ((oAt ![n, 0] h).view.loc (thr d i) ↦[(oAt ![n, 0] h).view.set]{fullShare}
          ((oAt ![n, 0] h).view.write (Elt F) f (src.view.read (Elt F) g) Finset.univ) : sProp 𝕄) = oPt d i s v z X n (n + 4) := by
      refine (pointsTo_congr (g := (show Buf (Elt F) ((oAt ![n, 0] h).view.loc (thr d i)) from out s v z X)) fun y hy => ?_).trans ?_
      · obtain ⟨x, -, rfl⟩ := Finset.mem_map.1 hy
        refine (congrFun (View.read_write_univ (v := (oAt ![n, 0] h).view) (Val := Elt F) f _) x).trans ?_
        refine (congrFun hg x).trans ?_
        show _ = quant s v z (X (up ((oAt ![n, 0] h).view.emb x)))
        rw [up_oAt h x]
        rfl
      · rw [oAt_set]; rfl
    iapply (Entails.of_eq e)
    iexact Ho

theorem waitOut_wp {O : CellTallies nD τ sig (HIx 1)} {W : Waits sig (HIx 1)} {o : Fin 2 → ℕ} (h : ∀ a, o a + S4x4096.size a ≤ S7168x4096.size a) (n : ℕ)
    (src : Memref sig .scVector .vmem S4x4096 .f32) (hsrc : src.IsWhole) (sem : DmaSem sig)
    {β : Type} (k : PUnit → Prog (TpuEff nD τ sig (Elt F) Λ₀ (thr d i).2) β) (Q : β → sProp 𝕄) :
    iprop(going d i s v z X sem src n ∗ ow d i F O W)
      ⊢ iprop((iprop(raw (thr d i) src ∗ oPt d i s v z X n (n + 4) ∗ idle d i F sem ∗ ow d i F O W)
            -∗ wp frame (wpE (defs₀ (F := F)) 𝒱₀ (thr d i) none) Set.univ (k ⟨⟩) Q)
          -∗ wp frame (wpE (defs₀ (F := F)) 𝒱₀ (thr d i) none) Set.univ (waitOut i src hsrc (oAt o h) sem >>= k) Q) := by
  unfold going ow idle
  iintro ⟨Hf, #Hm, %W', %hW, HO⟩ Hk
  iapply (Transfers.wp_waitLocalO countersEmb 𝒱₀ (thr d i) none (default : HIx 1) (dstw := oAt o h) (show (oAt o h).view.dmaCredit = credit from rfl)) $$ [Hf HO]
  · isplitl [Hf]; · iexact Hf
    isplitl [HO]; · iexact HO
    iapply (Transfers.MayWaits.elim (SemLoc.dma sem)) $$ Hm
  iintro ⟨⟨Hb, Ho⟩, Hs, HO⟩
  iapply Hk
  isplitl [Hb]; · iexact Hb
  isplitl [Ho]; · iexact Ho
  isplitl [Hs]; · iexact Hs
  isplitr; · iexact Hm
  iexists (insert (SemLoc.dma sem, (default : HIx 1)) W')
  isplitr
  · ipureintro
    intro p hp
    rcases Finset.mem_insert.1 hp with rfl | hp
    · exact Or.inr rfl
    · exact hW p hp
  · iexact HO

end Tile

end Cert.Proof.Quant
-- ==== Proof.Tile.lean ====
/-
  The SparseCore kernel's body run on one tile. `tile_wp`: from its rows of the operand, its rows of the result and shares
  of the two parameters, the body ends with the same and its rows of the result hold `out`. The loop's invariant: two
  blocks of the operand on their way in, two blocks of the result on their way out, the rows before them done and the rows
  after them not begun.
-/
module

public import proofs.«01_k».proof.Proof.Copies

@[expose] public section

noncomputable section

namespace Cert.Proof.Quant

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Places -/

/-- The first row of the tile's part of the result. -/
def base (i : grid0.Coords) : ℕ := ((i 1).val * 2 + (i 0).val) * 224

theorem base_le (i : grid0.Coords) : base i + 224 ≤ 7168 := by
  have h0 : (i 0).val < 2 := (i 0).isLt
  have h1 : (i 1).val < 16 := (i 1).isLt
  unfold base; omega

/-- The row a block of the operand begins at, and a block of the result, as the kernel computes them. -/
abbrev xRow (a b : ℕ) (c : BitVec 32) : ℕ :=
  (Scalar.addi (Scalar.addi 9216#32 (Scalar.muli (Scalar.addi (Scalar.muli (BitVec.ofNat 32 b) 2#32) (BitVec.ofNat 32 a)) 224#32)) c).toNat
abbrev oRow (a b : ℕ) (c : BitVec 32) : ℕ :=
  (Scalar.addi (Scalar.muli (Scalar.addi (Scalar.muli (BitVec.ofNat 32 b) 2#32) (BitVec.ofNat 32 a)) 224#32) c).toNat

theorem xRow_eq (a : Fin 2) (b : Fin 16) (k : Fin 57) : xRow a b (BitVec.ofNat 32 (4 * k.val)) = 9216 + (b.val * 2 + a.val) * 224 + 4 * k.val := by
  revert a b k; decide +kernel
theorem oRow_eq (a : Fin 2) (b : Fin 16) (k : Fin 57) : oRow a b (BitVec.ofNat 32 (4 * k.val)) = (b.val * 2 + a.val) * 224 + 4 * k.val := by
  revert a b k; decide +kernel

theorem off1_eq (i : grid0.Coords) (k : Fin 57) : k0_off1 i (BitVec.ofNat 32 (4 * k.val)) = ![9216 + base i + 4 * k.val, 0] := by
  show ![xRow (i 0).val (i 1).val (BitVec.ofNat 32 (4 * k.val)), 0] = _
  rw [xRow_eq (i 0) (i 1) k]; rfl
theorem off6_eq (i : grid0.Coords) (k : Fin 57) : k0_off6 i (BitVec.ofNat 32 (4 * k.val)) = ![base i + 4 * k.val, 0] := by
  show ![oRow (i 0).val (i 1).val (BitVec.ofNat 32 (4 * k.val)), 0] = _
  rw [oRow_eq (i 0) (i 1) k]; rfl

/-- The loop's blocks: trip `t` computes blocks `2 t + 2` and `2 t + 3`, and starts blocks `2 t + 4` and `2 t + 5` in. -/
theorem iter_eq (t : Fin k0_t9_loop.trips) (r : Fin 2) :
    Scalar.muli (Scalar.addi (Scalar.muli 2#32 (Scf.iv 1#32 1#32 t.val)) (BitVec.ofNat 32 r.val)) 4#32 = BitVec.ofNat 32 (4 * (2 * t.val + 2 + r.val)) := by
  revert t r; decide +kernel
theorem iter_next_eq (t : Fin k0_t9_loop.trips) (r : Fin 2) :
    Scalar.muli (Scalar.addi (Scalar.addi (Scalar.muli 2#32 (Scf.iv 1#32 1#32 t.val)) (BitVec.ofNat 32 r.val)) 2#32) 4#32 = BitVec.ofNat 32 (4 * (2 * t.val + 4 + r.val)) := by
  revert t r; decide +kernel

theorem trips_eq : k0_t9_loop.trips = 26 := by decide +kernel

theorem off17_eq (i : grid0.Coords) (t : Fin k0_t9_loop.trips) (r : Fin 2) :
    k0_off17 i t (BitVec.ofNat 32 r.val) = ![base i + (8 * t.val + 8 + 4 * r.val), 0] := by
  have ht : t.val < 26 := Nat.lt_of_lt_of_le t.isLt (Nat.le_of_eq trips_eq)
  have hr := r.isLt
  show ![oRow (i 0).val (i 1).val (Scalar.muli (Scalar.addi (Scalar.muli 2#32 (Scf.iv 1#32 1#32 t.val)) (BitVec.ofNat 32 r.val)) 4#32), 0] = _
  rw [iter_eq, oRow_eq (i 0) (i 1) ⟨2 * t.val + 2 + r.val, by omega⟩]
  show ![base i + 4 * (2 * t.val + 2 + r.val), 0] = _
  rw [show 4 * (2 * t.val + 2 + r.val) = 8 * t.val + 8 + 4 * r.val by omega]
theorem off18_eq (i : grid0.Coords) (t : Fin k0_t9_loop.trips) (r : Fin 2) :
    k0_off18 i t (BitVec.ofNat 32 r.val) = ![9216 + base i + (8 * t.val + 16 + 4 * r.val), 0] := by
  have ht : t.val < 26 := Nat.lt_of_lt_of_le t.isLt (Nat.le_of_eq trips_eq)
  have hr := r.isLt
  show ![xRow (i 0).val (i 1).val (Scalar.muli (Scalar.addi (Scalar.addi (Scalar.muli 2#32 (Scf.iv 1#32 1#32 t.val)) (BitVec.ofNat 32 r.val)) 2#32) 4#32), 0] = _
  rw [iter_next_eq, xRow_eq (i 0) (i 1) ⟨2 * t.val + 4 + r.val, by omega⟩]
  show ![9216 + base i + 4 * (2 * t.val + 4 + r.val), 0] = _
  rw [show 4 * (2 * t.val + 4 + r.val) = 8 * t.val + 16 + 4 * r.val by omega]

/-! ## The parameters -/

/-- The first place of a parameter, and of a table. -/
def at0 : S1.Idx := fun a => ⟨0, by revert a; decide⟩
def at0' : S16.Idx := fun a => ⟨0, by revert a; decide⟩

/-- One over the scale. -/
def inv (s : F .f32) : F .f32 := FloatOps.divf (FloatOps.ofBits .f32 0x3F800000#32) s

theorem first_eq (x : Vec F S16 .f32) : first x = x at0' := by
  unfold first
  rw [shapeCast_self]
  exact congrArg x (funext fun a => match a with | 0 => rfl)
theorem firstInv_eq (x : Vec F S16 .f32) : firstInv x = inv (x at0') := by
  unfold firstInv
  rw [shapeCast_self]
  exact congrArg (fun y => inv (x y)) (funext fun a => match a with | 0 => rfl)

section Tile

variable (d : Dev nD) (i : grid0.Coords)

/-- A table held whole whose first element is `y`. -/
def tab (b : Memref sig .scVector .vmem S16 .f32) (y : F .f32) : sProp 𝕄 :=
  iprop(∃ f, (b.view.loc (thr d i) ↦[b.view.set]{fullShare} f) ∗ ⌜b.view.read (Elt F) f at0' = y⌝)

theorem tab_raw (b : Memref sig .scVector .vmem S16 .f32) (y : F .f32) : tab d i b y ⊢ raw (thr d i) b := by
  unfold tab raw
  iintro ⟨%f, Hf, -⟩
  iexists f; iexact Hf

theorem fetch_wp {O : CellTallies nD τ sig (HIx 1)} {W : Waits sig (HIx 1)} (src : Memref sig .scVector .hbm S1 .f32) (hsrc : src.IsWhole)
    (b : Memref sig .scVector .vmem S16 .f32) (sem : DmaSem sig) (q : PosShare TreeShare) (f0 : Buf (Elt F) (src.view.loc (thr d i)))
    {β : Type} (k : PUnit → Prog (TpuEff nD τ sig (Elt F) Λ₀ (thr d i).2) β) (Q : β → sProp 𝕄) :
    iprop((src.view.loc (thr d i) ↦[src.view.set]{q} f0) ∗ raw (thr d i) b ∗ idle d i F sem ∗ ow d i F O W)
      ⊢ iprop((iprop((src.view.loc (thr d i) ↦[src.view.set]{q} f0) ∗ tab d i b (src.view.read (Elt F) f0 at0) ∗ idle d i F sem ∗ ow d i F O W)
            -∗ wp frame (wpE (defs₀ (F := F)) 𝒱₀ (thr d i) none) Set.univ (k ⟨⟩) Q)
          -∗ wp frame (wpE (defs₀ (F := F)) 𝒱₀ (thr d i) none) Set.univ (fetch i src hsrc b sem >>= k) Q) := by
  unfold raw idle ow fetch
  simp only [bind_assoc]
  iintro ⟨Hx, ⟨%f, Hd⟩, Hs, #Hm, %W', %hW, HO⟩ Hk
  have hN : (firstOf b).view.amount (.dma sem) = (firstOf b).view.dmaCredit := rfl
  iapply (Transfers.wp_dmaLocal countersEmb 𝒱₀ (thr d i) none (src := src) (dst := firstOf b) (sm := .dma sem) (default : HIx 1) (firstOf b).view.dmaCredit hN
    (View.amount_pos (firstOf b).view (.dma sem) (by decide)) (View.set_slice_subset b.view _)) $$ [Hx Hd Hs]
  · isplitl [Hx]; · iexact Hx
    isplitl [Hd]; · iexact Hd
    iexact Hs
  iintro Hf
  have hN' : (firstOf b).view.dmaCredit = (firstOf b).view.dmaCredit := rfl
  iapply (Transfers.wp_waitLocalO countersEmb 𝒱₀ (thr d i) none (default : HIx 1) (dstw := firstOf b) hN') $$ [Hf HO]
  · isplitl [Hf]; · iexact Hf
    isplitl [HO]; · iexact HO
    iapply (Transfers.MayWaits.elim (SemLoc.dma sem)) $$ Hm
  iintro ⟨⟨Hd, Hx⟩, Hs, HO⟩
  iapply Hk
  isplitl [Hx]; · iexact Hx
  isplitl [Hd]
  · unfold tab
    iexists _
    isplitl [Hd]; · iexact Hd
    ipureintro
    have e : (Rect.unit (s := S16) ![0] S1.size inb_S16_S1_0).emb at0 = at0' := funext fun a => match a with | 0 => rfl
    rw [← e]
    exact View.read_slice_write_emb (v := b.view) (Val := Elt F) _ f _ (Finset.mem_univ at0)
  isplitl [Hs]; · iexact Hs
  isplitr; · iexact Hm
  iexists (insert (SemLoc.dma sem, (default : HIx 1)) W')
  isplitr
  · ipureintro
    intro p hp
    rcases Finset.mem_insert.1 hp with rfl | hp
    · exact Or.inr rfl
    · exact hW p hp
  · iexact HO

theorem table_wp (b : Memref sig .scVector .vmem S16 .f32) (y : F .f32)
    {β : Type} (k : Vec F S16 .f32 → Prog (TpuEff nD τ sig (Elt F) Λ₀ (thr d i).2) β) (Q : β → sProp 𝕄) :
    tab d i b y ⊢ iprop((∀ x, ⌜x at0' = y⌝ -∗ tab d i b y -∗ wp frame (wpE (defs₀ (F := F)) 𝒱₀ (thr d i) none) Set.univ (k x) Q) -∗ wp frame (wpE (defs₀ (F := F)) 𝒱₀ (thr d i) none) Set.univ (table i b >>= k) Q) := by
  unfold tab table
  iintro ⟨%f, Hf, %hf⟩ Hk
  iapply (wp_load_rect (m := b) (r := Rect.unit (s := S16) ![0] S16.size inb_S16_S16_0) 𝒱₀ (thr d i) none Set.univ (View.set_slice_subset _ _)) $$ Hf
  iintro Hf
  iapply Hk $$ [] [Hf]
  · ipureintro
    refine Eq.trans ?_ hf
    refine congrArg (b.view.read (Elt F) f) (funext fun a => match a with | 0 => rfl)
  · iexists f
    isplitl [Hf]; · iexact Hf
    ipureintro; exact hf

/-! ## The body -/

variable (X : S16384x4096.Idx → F .f32) (s0 z0 : S1.Idx → F .f32) (O : CellTallies nD τ sig (HIx 1)) (W : Waits sig (HIx 1))

/-- The loop's invariant before trip `n`. -/
def inv_at (s v z : F .f32) (n : ℕ) : sProp 𝕄 :=
  iprop(xPt d i X (9216 + base i) (9216 + base i + (8 * n + 8)) ∗ xPt d i X (9216 + base i + (8 * n + 16)) (9216 + base i + 224)
    ∗ coming d i X dsInA inA (9216 + base i + (8 * n + 8)) ∗ coming d i X dsInB inB (9216 + base i + (8 * n + 12))
    ∗ oPt d i s v z X (base i) (base i + 8 * n) ∗ oRaw d i F (base i + (8 * n + 8)) (base i + 224)
    ∗ going d i s v z X dsOutA outA (base i + 8 * n) ∗ going d i s v z X dsOutB outB (base i + (8 * n + 4)) ∗ ow d i F O W)

theorem trip_wp (s v z : F .f32) (t : Fin k0_t9_loop.trips) :
    inv_at d i X O W s v z t.val ⊢ wp frame (wpE (defs₀ (F := F)) 𝒱₀ (thr d i) none) Set.univ (trip i s v z t) fun _ => inv_at d i X O W s v z (t.val + 1) := by
  have ht : t.val < 26 := Nat.lt_of_lt_of_le t.isLt (Nat.le_of_eq trips_eq)
  unfold inv_at trip
  iintro ⟨Hx, Hxr, HiA, HiB, Ho, Hor, HoA, HoB, HO⟩
  -- the next blocks to start, taken off their ranges
  ihave H := (xPt_split d i X (a := 9216 + base i + (8 * t.val + 16)) (b := 9216 + base i + (8 * t.val + 16) + 4) (c := 9216 + base i + 224) (by omega) (by omega)).1 $$ Hxr
  icases H with ⟨Hx1, Hxr⟩
  ihave H := (xPt_split d i X (a := 9216 + base i + (8 * t.val + 16) + 4) (b := 9216 + base i + (8 * t.val + 16) + 8) (c := 9216 + base i + 224) (by omega) (by omega)).1 $$ Hxr
  icases H with ⟨Hx2, Hxr⟩
  ihave H := (oRaw_split d i (F := F) (a := base i + (8 * t.val + 8)) (b := base i + (8 * t.val + 8) + 4) (c := base i + 224) (by omega) (by omega)) $$ Hor
  icases H with ⟨Ho1, Hor⟩
  ihave H := (oRaw_split d i (F := F) (a := base i + (8 * t.val + 8) + 4) (b := base i + (8 * t.val + 8) + 8) (c := base i + 224) (by omega) (by omega)) $$ Hor
  icases H with ⟨Ho2, Hor⟩
  -- the first block
  iapply (waitIn_wp d i X _ _ inA _ dsInA) $$ [HiA HO]
  · isplitl [HiA] <;> iassumption
  iintro ⟨HA, Hxa, Hs1, HO⟩
  iapply (waitOut_wp d i s v z X _ _ outA _ dsOutA) $$ [HoA HO]
  · isplitl [HoA] <;> iassumption
  iintro ⟨HB, Hoa, Hs2, HO⟩
  iapply (compute_wp d i inA outA s v z _) $$ [HA HB]
  · isplitl [HA] <;> iassumption
  iintro ⟨HA, HB⟩
  ihave HA := (holds_raw (thr d i) inA _) $$ HA
  iapply (copyOut_wp d i s v z X _ (base i + (8 * t.val + 8)) (off17_eq i t 0) outA _ dsOutA) $$ [HB Ho1 Hs2]
  · rw [show 9216 + (base i + (8 * t.val + 8)) = 9216 + base i + (8 * t.val + 8) by omega]
    isplitl [HB]; · iexact HB
    isplitl [Ho1] <;> iassumption
  iintro HoA
  iapply (copyIn_wp d i X _ (9216 + base i + (8 * t.val + 16)) (off18_eq i t 0) inA _ dsInA) $$ [HA Hx1 Hs1]
  · isplitl [Hx1]; · iexact Hx1
    isplitl [HA] <;> iassumption
  iintro HiA
  -- the second block
  iapply (waitIn_wp d i X _ _ inB _ dsInB) $$ [HiB HO]
  · isplitl [HiB] <;> iassumption
  iintro ⟨HA, Hxb, Hs1, HO⟩
  iapply (waitOut_wp d i s v z X _ _ outB _ dsOutB) $$ [HoB HO]
  · isplitl [HoB] <;> iassumption
  iintro ⟨HB, Hob, Hs2, HO⟩
  iapply (compute_wp d i inB outB s v z _) $$ [HA HB]
  · isplitl [HA] <;> iassumption
  iintro ⟨HA, HB⟩
  ihave HA := (holds_raw (thr d i) inB _) $$ HA
  iapply (copyOut_wp d i s v z X _ (base i + (8 * t.val + 8 + 4)) (off17_eq i t 1) outB _ dsOutB) $$ [HB Ho2 Hs2]
  · rw [show 9216 + (base i + (8 * t.val + 8 + 4)) = 9216 + base i + (8 * t.val + 12) by omega]
    isplitl [HB]; · iexact HB
    isplitl [Ho2]
    · rw [show base i + (8 * t.val + 8 + 4) = base i + (8 * t.val + 8) + 4 by omega, show base i + (8 * t.val + 8) + 4 + 4 = base i + (8 * t.val + 8) + 8 by omega]
      iexact Ho2
    iexact Hs2
  iintro HoB
  iapply (copyIn_wp d i X _ (9216 + base i + (8 * t.val + 16 + 4)) (off18_eq i t 1) inB _ dsInB) $$ [HA Hx2 Hs1]
  · isplitl [Hx2]
    · rw [show 9216 + base i + (8 * t.val + 16 + 4) = 9216 + base i + (8 * t.val + 16) + 4 by omega, show 9216 + base i + (8 * t.val + 16) + 4 + 4 = 9216 + base i + (8 * t.val + 16) + 8 by omega]
      iexact Hx2
    isplitl [HA] <;> iassumption
  iintro HiB
  iapply (le_wp_ret _ _ _)
  -- the ranges grown
  rw [show 8 * (t.val + 1) + 8 = 8 * t.val + 16 by omega, show 8 * (t.val + 1) + 16 = 8 * t.val + 24 by omega, show 8 * (t.val + 1) + 12 = 8 * t.val + 16 + 4 by omega,
    show 8 * (t.val + 1) + 4 = 8 * t.val + 8 + 4 by omega, show 8 * (t.val + 1) = 8 * t.val + 8 by omega]
  isplitl [Hx Hxa Hxb]
  · iapply (xPt_split d i X (a := 9216 + base i) (b := 9216 + base i + (8 * t.val + 8)) (c := 9216 + base i + (8 * t.val + 16)) (by omega) (by omega)).2
    isplitl [Hx]; · iexact Hx
    iapply (xPt_split d i X (a := 9216 + base i + (8 * t.val + 8)) (b := 9216 + base i + (8 * t.val + 12)) (c := 9216 + base i + (8 * t.val + 16)) (by omega) (by omega)).2
    isplitl [Hxa]
    · iexact Hxa
    · iexact Hxb
  isplitl [Hxr]; · iexact Hxr
  isplitl [HiA]; · iexact HiA
  isplitl [HiB]; · iexact HiB
  isplitl [Ho Hoa Hob]
  · iapply (oPt_split d i s v z X (a := base i) (b := base i + 8 * t.val) (c := base i + (8 * t.val + 8)) (by omega) (by omega)).2
    isplitl [Ho]; · iexact Ho
    iapply (oPt_split d i s v z X (a := base i + 8 * t.val) (b := base i + (8 * t.val + 4)) (c := base i + (8 * t.val + 8)) (by omega) (by omega)).2
    isplitl [Hoa]
    · iexact Hoa
    · iexact Hob
  isplitl [Hor]; · iexact Hor
  isplitl [HoA]; · iexact HoA
  isplitl [HoB]; · iexact HoB
  iexact HO

/-- What the tile holds between the parameters' copies and the first wait. -/
def begun (s v z : F .f32) : sProp 𝕄 :=
  iprop(xPt d i X (9216 + base i + 8) (9216 + base i + 224)
    ∗ coming d i X dsInA inA (9216 + base i) ∗ coming d i X dsInB inB (9216 + base i + 4)
    ∗ oRaw d i F (base i) (base i + 224) ∗ raw (thr d i) outA ∗ raw (thr d i) outB ∗ idle d i F dsOutA ∗ idle d i F dsOutB ∗ ow d i F O W)

/-- What it holds at the end. -/
def ended (s v z : F .f32) : sProp 𝕄 :=
  iprop(xPt d i X (9216 + base i) (9216 + base i + 224) ∗ oPt d i s v z X (base i) (base i + 224)
    ∗ raw (thr d i) inA ∗ raw (thr d i) inB ∗ raw (thr d i) outA ∗ raw (thr d i) outB
    ∗ idle d i F dsInA ∗ idle d i F dsInB ∗ idle d i F dsOutA ∗ idle d i F dsOutB ∗ ow d i F O W)

theorem opening_wp (s v z : F .f32) {β : Type} (k : PUnit → Prog (TpuEff nD τ sig (Elt F) Λ₀ (thr d i).2) β) (Q : β → sProp 𝕄) :
    begun d i X O W s v z ⊢ iprop((inv_at d i X O W s v z 0 -∗ wp frame (wpE (defs₀ (F := F)) 𝒱₀ (thr d i) none) Set.univ (k ⟨⟩) Q) -∗ wp frame (wpE (defs₀ (F := F)) 𝒱₀ (thr d i) none) Set.univ (opening i s v z >>= k) Q) := by
  unfold begun opening
  simp only [bind_assoc]
  iintro ⟨Hxr, HiA, HiB, Hor, HoA, HoB, Hs2, Hs3, HO⟩ Hk
  ihave H := (xPt_split d i X (a := 9216 + base i + 8) (b := 9216 + base i + 12) (c := 9216 + base i + 224) (by omega) (by omega)).1 $$ Hxr
  icases H with ⟨Hx1, Hxr⟩
  ihave H := (xPt_split d i X (a := 9216 + base i + 12) (b := 9216 + base i + 16) (c := 9216 + base i + 224) (by omega) (by omega)).1 $$ Hxr
  icases H with ⟨Hx2, Hxr⟩
  ihave H := (oRaw_split d i (F := F) (a := base i) (b := base i + 4) (c := base i + 224) (by omega) (by omega)) $$ Hor
  icases H with ⟨Ho1, Hor⟩
  ihave H := (oRaw_split d i (F := F) (a := base i + 4) (b := base i + 8) (c := base i + 224) (by omega) (by omega)) $$ Hor
  icases H with ⟨Ho2, Hor⟩
  -- the first block
  iapply (waitIn_wp d i X _ _ inA _ dsInA) $$ [HiA HO]
  · isplitl [HiA] <;> iassumption
  iintro ⟨HA, Hxa, Hs1, HO⟩
  iapply (compute_wp d i inA outA s v z _) $$ [HA HoA]
  · isplitl [HA] <;> iassumption
  iintro ⟨HA, HB⟩
  ihave HA := (holds_raw (thr d i) inA _) $$ HA
  iapply (copyOut_wp d i s v z X _ (base i) (off6_eq i 0) outA _ dsOutA) $$ [HB Ho1 Hs2]
  · rw [show 9216 + (base i) = 9216 + base i by omega]
    isplitl [HB]; · iexact HB
    isplitl [Ho1] <;> iassumption
  iintro HoA
  iapply (copyIn_wp d i X _ (9216 + base i + 8) (off1_eq i 2) inA _ dsInA) $$ [HA Hx1 Hs1]
  · isplitl [Hx1]; · iexact Hx1
    isplitl [HA] <;> iassumption
  iintro HiA
  -- the second block
  iapply (waitIn_wp d i X _ _ inB _ dsInB) $$ [HiB HO]
  · isplitl [HiB] <;> iassumption
  iintro ⟨HA, Hxb, Hs1, HO⟩
  iapply (compute_wp d i inB outB s v z _) $$ [HA HoB]
  · isplitl [HA] <;> iassumption
  iintro ⟨HA, HB⟩
  ihave HA := (holds_raw (thr d i) inB _) $$ HA
  iapply (copyOut_wp d i s v z X _ (base i + 4) (off6_eq i 1) outB _ dsOutB) $$ [HB Ho2 Hs3]
  · rw [show 9216 + (base i + 4) = 9216 + base i + 4 by omega]
    isplitl [HB]; · iexact HB
    isplitl [Ho2] <;> iassumption
  iintro HoB
  iapply (copyIn_wp d i X _ (9216 + base i + 12) (off1_eq i 3) inB _ dsInB) $$ [HA Hx2 Hs1]
  · isplitl [Hx2]; · iexact Hx2
    isplitl [HA] <;> iassumption
  iintro HiB
  iapply Hk
  unfold inv_at
  isplitl [Hxa Hxb]
  · iapply (xPt_split d i X (a := 9216 + base i) (b := 9216 + base i + 4) (c := 9216 + base i + 8) (by omega) (by omega)).2
    isplitl [Hxa] <;> iassumption
  isplitl [Hxr]; · iexact Hxr
  isplitl [HiA]; · iexact HiA
  isplitl [HiB]; · iexact HiB
  isplitr; · iapply (oPt_empty d i s v z X (base i))
  isplitl [Hor]; · iexact Hor
  isplitl [HoA]; · iexact HoA
  isplitl [HoB]; · iexact HoB
  iexact HO

theorem closing_wp (s v z : F .f32) :
    inv_at d i X O W s v z 26 ⊢ wp frame (wpE (defs₀ (F := F)) 𝒱₀ (thr d i) none) Set.univ (closing i s v z) fun _ => ended d i X O W s v z := by
  rw [show closing (F := F) i s v z = (closing i s v z >>= pure) from (bind_pure _).symm]
  unfold inv_at closing ended
  simp only [bind_assoc]
  iintro ⟨Hx, Hxr, HiA, HiB, Ho, Hor, HoA, HoB, HO⟩
  ihave H := (oRaw_split d i (F := F) (a := base i + (8 * 26 + 8)) (b := base i + 220) (c := base i + 224) (by omega) (by omega)) $$ Hor
  icases H with ⟨Ho1, Ho2⟩
  -- the last block but one
  iapply (waitIn_wp d i X _ _ inA _ dsInA) $$ [HiA HO]
  · isplitl [HiA] <;> iassumption
  iintro ⟨HA, Hxa, Hs0, HO⟩
  iapply (waitOut_wp d i s v z X _ _ outA _ dsOutA) $$ [HoA HO]
  · isplitl [HoA] <;> iassumption
  iintro ⟨HB, Hoa, Hs2, HO⟩
  iapply (compute_wp d i inA outA s v z _) $$ [HA HB]
  · isplitl [HA] <;> iassumption
  iintro ⟨HA, HB⟩
  ihave HA := (holds_raw (thr d i) inA _) $$ HA
  iapply (copyOut_wp d i s v z X _ (base i + 216) (off6_eq i 54) outA _ dsOutA) $$ [HB Ho1 Hs2]
  · rw [show 9216 + (base i + 216) = 9216 + base i + 216 by omega]
    isplitl [HB]; · iexact HB
    isplitl [Ho1] <;> iassumption
  iintro HoA
  -- the last block
  iapply (waitIn_wp d i X _ _ inB _ dsInB) $$ [HiB HO]
  · isplitl [HiB] <;> iassumption
  iintro ⟨HC, Hxb, Hs1, HO⟩
  iapply (waitOut_wp d i s v z X _ _ outB _ dsOutB) $$ [HoB HO]
  · isplitl [HoB] <;> iassumption
  iintro ⟨HB, Hob, Hs3, HO⟩
  iapply (compute_wp d i inB outB s v z _) $$ [HC HB]
  · isplitl [HC] <;> iassumption
  iintro ⟨HC, HB⟩
  ihave HC := (holds_raw (thr d i) inB _) $$ HC
  iapply (copyOut_wp d i s v z X _ (base i + 220) (off6_eq i 55) outB _ dsOutB) $$ [HB Ho2 Hs3]
  · rw [show 9216 + (base i + 220) = 9216 + base i + 220 by omega]
    isplitl [HB]; · iexact HB
    isplitl [Ho2] <;> iassumption
  iintro HoB
  -- the last two copies out
  iapply (waitOut_wp d i s v z X _ _ outA _ dsOutA) $$ [HoA HO]
  · isplitl [HoA] <;> iassumption
  iintro ⟨HoA, Hoc, Hs2, HO⟩
  iapply (waitOut_wp d i s v z X _ _ outB _ dsOutB) $$ [HoB HO]
  · isplitl [HoB] <;> iassumption
  iintro ⟨HoB, Hod, Hs3, HO⟩
  iapply (le_wp_ret _ _ _)
  isplitl [Hx Hxa Hxb Hxr]
  · iapply (xPt_split d i X (a := 9216 + base i) (b := 9216 + base i + (8 * 26 + 8)) (c := 9216 + base i + 224) (by omega) (by omega)).2
    isplitl [Hx]; · iexact Hx
    iapply (xPt_split d i X (a := 9216 + base i + (8 * 26 + 8)) (b := 9216 + base i + (8 * 26 + 12)) (c := 9216 + base i + 224) (by omega) (by omega)).2
    isplitl [Hxa]
    · iexact Hxa
    · iexact Hxb
  isplitl [Ho Hoa Hob Hoc Hod]
  · iapply (oPt_split d i s v z X (a := base i) (b := base i + 8 * 26) (c := base i + 224) (by omega) (by omega)).2
    isplitl [Ho]; · iexact Ho
    iapply (oPt_split d i s v z X (a := base i + 8 * 26) (b := base i + (8 * 26 + 4)) (c := base i + 224) (by omega) (by omega)).2
    isplitl [Hoa]; · iexact Hoa
    iapply (oPt_split d i s v z X (a := base i + (8 * 26 + 4)) (b := base i + 216) (c := base i + 224) (by omega) (by omega)).2
    isplitl [Hob]; · iexact Hob
    iapply (oPt_split d i s v z X (a := base i + 216) (b := base i + 220) (c := base i + 224) (by omega) (by omega)).2
    isplitl [Hoc]; · iexact Hoc
    iexact Hod
  isplitl [HA]; · iexact HA
  isplitl [HC]; · iexact HC
  isplitl [HoA]; · iexact HoA
  isplitl [HoB]; · iexact HoB
  isplitl [Hs0]; · iexact Hs0
  isplitl [Hs1]; · iexact Hs1
  isplitl [Hs2]; · iexact Hs2
  isplitl [Hs3]; · iexact Hs3
  iexact HO

/-- A share of a parameter. -/
def param (m : Memref sig .scVector .hbm S1 .f32) (q : PosShare TreeShare) (f : Buf (Elt F) (m.view.loc (thr d i))) : sProp 𝕄 :=
  (m.view.loc (thr d i) ↦[m.view.set]{q} f)

/-- What a tile is given, beside its scratch and its semaphores. -/
def given (q : PosShare TreeShare) : sProp 𝕄 :=
  iprop(param d i ms q s0 ∗ param d i mz q z0 ∗ xPt d i X (9216 + base i) (9216 + base i + 224) ∗ oRaw d i F (base i) (base i + 224))
/-- What it gives back. -/
def done (q : PosShare TreeShare) : sProp 𝕄 :=
  iprop(param d i ms q s0 ∗ param d i mz q z0 ∗ xPt d i X (9216 + base i) (9216 + base i + 224)
    ∗ oPt d i (s0 at0) (inv (s0 at0)) (z0 at0) X (base i) (base i + 224))
/-- Its scratch and its semaphores. -/
def scratch (F : FTy → Type) : sProp (MT nD τ sig (HIx 1) (Elt F) ℕ UU ℕ) :=
  iprop(raw (thr d i) bS ∗ raw (thr d i) bZ ∗ raw (thr d i) inA ∗ raw (thr d i) inB ∗ raw (thr d i) outA ∗ raw (thr d i) outB)
def cells (F : FTy → Type) : sProp (MT nD τ sig (HIx 1) (Elt F) ℕ UU ℕ) :=
  iprop(idle d i F dsInA ∗ idle d i F dsInB ∗ idle d i F dsOutA ∗ idle d i F dsOutB ∗ idle d i F cc0_scoped0.sem ∗ idle d i F cc0_scoped1.sem)

/-- The body run. -/
theorem tile_wp (q : PosShare TreeShare) :
    iprop(given d i X s0 z0 q ∗ scratch d i F ∗ cells d i F ∗ ow d i F O W)
      ⊢ wp frame (wpE (defs₀ (F := F)) 𝒱₀ (thr d i) none) Set.univ (tile i) fun _ => iprop(done d i X s0 z0 q ∗ scratch d i F ∗ cells d i F ∗ ow d i F O W) := by
  unfold given done scratch cells param tile prologue
  simp only [bind_assoc]
  iintro ⟨⟨Hs, Hz, Hx, Ho⟩, ⟨HbS, HbZ, HA, HB, HoA, HoB⟩, ⟨Hc0, Hc1, Hc2, Hc3, Hc4, Hc5⟩, HO⟩
  iapply (fetch_wp d i ms _ bS cc0_scoped0.sem q s0) $$ [Hs HbS Hc4 HO]
  · isplitl [Hs]; · iexact Hs
    isplitl [HbS]; · iexact HbS
    isplitl [Hc4] <;> iassumption
  iintro ⟨Hs, HbS, Hc4, HO⟩
  iapply (fetch_wp d i mz _ bZ cc0_scoped1.sem q z0) $$ [Hz HbZ Hc5 HO]
  · isplitl [Hz]; · iexact Hz
    isplitl [HbZ]; · iexact HbZ
    isplitl [Hc5] <;> iassumption
  iintro ⟨Hz, HbZ, Hc5, HO⟩
  iapply (table_wp d i bS _) $$ HbS
  iintro %xs %hs HbS
  iapply (table_wp d i bZ _) $$ HbZ
  iintro %xz %hz HbZ
  ihave HbS := (tab_raw d i bS _) $$ HbS
  ihave HbZ := (tab_raw d i bZ _) $$ HbZ
  ihave H := (xPt_split d i X (a := 9216 + base i) (b := 9216 + base i + 4) (c := 9216 + base i + 224) (by omega) (by omega)).1 $$ Hx
  icases H with ⟨Hx1, Hxr⟩
  ihave H := (xPt_split d i X (a := 9216 + base i + 4) (b := 9216 + base i + 8) (c := 9216 + base i + 224) (by omega) (by omega)).1 $$ Hxr
  icases H with ⟨Hx2, Hxr⟩
  iapply (copyIn_wp d i X _ (9216 + base i) (off1_eq i 0) inA _ dsInA) $$ [HA Hx1 Hc0]
  · isplitl [Hx1]; · iexact Hx1
    isplitl [HA] <;> iassumption
  iintro HiA
  iapply (copyIn_wp d i X _ (9216 + base i + 4) (off1_eq i 1) inB _ dsInB) $$ [HB Hx2 Hc1]
  · isplitl [Hx2]; · iexact Hx2
    isplitl [HB] <;> iassumption
  iintro HiB
  have e1 : first xs = s0 at0 := (first_eq xs).trans hs
  have e2 : firstInv xs = inv (s0 at0) := (firstInv_eq xs).trans (congrArg inv hs)
  have e3 : first xz = z0 at0 := (first_eq xz).trans hz
  simp only [pure_bind, e1, e2, e3]
  iapply (opening_wp d i X O W _ _ _) $$ [Hxr HiA HiB Ho HoA HoB Hc2 Hc3 HO]
  · unfold begun
    isplitl [Hxr]; · iexact Hxr
    isplitl [HiA]; · iexact HiA
    isplitl [HiB]; · iexact HiB
    isplitl [Ho]; · iexact Ho
    isplitl [HoA]; · iexact HoA
    isplitl [HoB]; · iexact HoB
    isplitl [Hc2]; · iexact Hc2
    isplitl [Hc3] <;> iassumption
  iintro Hinv
  iapply (Scf.wp_for_bind frame (wpE (defs₀ (F := F)) 𝒱₀ (thr d i) none) Set.univ _ _ _ k0_t9_ok 0#32
    (fun t _ => trip i (s0 at0) (inv (s0 at0)) (z0 at0) t)
    (fun n _ => inv_at d i X O W (s0 at0) (inv (s0 at0)) (z0 at0) n)
    (fun t _ => trip_wp d i X O W (s0 at0) (inv (s0 at0)) (z0 at0) t)) $$ Hinv
  iintro %b Hinv
  iapply (wp_wand frame (wpE (defs₀ (F := F)) 𝒱₀ (thr d i) none) Set.univ) $$ [Hinv]
  · iapply (closing_wp d i X O W (s0 at0) (inv (s0 at0)) (z0 at0))
    iapply (Entails.of_eq (congrArg (inv_at d i X O W (s0 at0) (inv (s0 at0)) (z0 at0)) trips_eq)) $$ Hinv
  iintro %a Hend
  unfold ended
  icases Hend with ⟨Hx, Ho, HA, HB, HoA, HoB, Hc0, Hc1, Hc2, Hc3, HO⟩
  isplitl [Hs Hz Hx Ho]
  · isplitl [Hs]; · iexact Hs
    isplitl [Hz]; · iexact Hz
    isplitl [Hx] <;> iassumption
  isplitl [HbS HbZ HA HB HoA HoB]
  · isplitl [HbS]; · iexact HbS
    isplitl [HbZ]; · iexact HbZ
    isplitl [HA]; · iexact HA
    isplitl [HB]; · iexact HB
    isplitl [HoA] <;> iassumption
  isplitl [Hc0 Hc1 Hc2 Hc3 Hc4 Hc5]
  · isplitl [Hc0]; · iexact Hc0
    isplitl [Hc1]; · iexact Hc1
    isplitl [Hc2]; · iexact Hc2
    isplitl [Hc3]; · iexact Hc3
    isplitl [Hc4] <;> iassumption
  iexact HO

end Tile

end Cert.Proof.Quant
-- ==== Proof.Tasks.lean ====
/-
  The SparseCore call's tasks. What the call's handshakes carry (`pay`): each SparseCore takes what its tiles take, each
  tile its rows of the operand and of the result and a share of the two parameters. `task` is the obligation of a tile,
  `deal` that of a sequencer.
-/
module

public import proofs.«01_k».proof.Proof.Tile
@[expose] public section

noncomputable section

namespace Cert.Proof.Quant

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The launch's side conditions -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## A tile's own semaphores and buffers -/

section Own

variable (d : Dev nD) (i : grid0.Coords)

/-- The semaphores of the kernel, and its buffers. -/
abbrev semNames : Finset (DmaSem sig) := {dsInA, dsInB, dsOutA, dsOutB, cc0_scoped0.sem, cc0_scoped1.sem}
abbrev bufNames : Finset (Ref sig .scVector) := {cc0_scratch0, cc0_scratch1, cc0_scratch2, cc0_scratch3, cc0_scratch4, cc0_scratch5}

/-- Each as the tile's own cell, and as the tile's own place. -/
def semAt : DmaSem sig ↪ GSem nD τ sig := ⟨fun sem => (thr d i, .dma sem), fun a b e => by injection e with _ e; injection e⟩
def bufAt : Ref sig .scVector ↪ DevRef τ sig := ⟨(thr d i).2.devRef, Proc.devRef_injective _⟩

theorem semNames_own : semNames.map (semAt d i) ⊆ SparseCore.Cfg.ownCells (thr d i) := by
  intro g hg
  obtain ⟨s, hs, rfl⟩ := Finset.mem_map.mp hg
  have h : ∀ s ∈ semNames, (SemLoc.dma s : SemLoc sig).isScoped .scVector = true := by decide
  exact (SparseCore.Cfg.mem_ownCells).mpr ⟨rfl, h s hs⟩

theorem bufNames_own : bufNames.map (bufAt d i) ⊆ SparseCore.Cfg.ownRefs (τ := τ) (thr d i).2 := by
  intro g hg
  obtain ⟨b, hb, rfl⟩ := Finset.mem_map.mp hg
  simp only [bufNames, Finset.mem_insert, Finset.mem_singleton] at hb
  rcases hb with rfl | rfl | rfl | rfl | rfl | rfl <;> exact SparseCore.Cfg.mem_ownRefs_of_owner rfl

theorem sems_out : (SparseCore.Cfg.ownSems0 (thr d i) : sProp 𝕄)
    = iprop(cells d i F ∗ bigSep (SparseCore.Cfg.ownCells (thr d i) \ semNames.map (semAt d i)) fun g => semVal g 0) := by
  unfold SparseCore.Cfg.ownSems0
  rw [SparseCore.bigSep_sdiff_split' (semNames_own d i), bigSep_map]
  congr 1
  rw [SparseCore.bigSep_insert' (by decide), SparseCore.bigSep_insert' (by decide), SparseCore.bigSep_insert' (by decide),
    SparseCore.bigSep_insert' (by decide), SparseCore.bigSep_insert' (by decide), bigSep_singleton]
  rfl

theorem raw_bS : raw (F := F) (thr d i) bS = iprop(∃ f, ((d, bufAt d i cc0_scratch0) : Loc nD τ sig) ↦{fullShare} f) := by
  unfold raw; rw [show bS.view.set = Finset.univ from View.set_whole _]; rfl
theorem raw_bZ : raw (F := F) (thr d i) bZ = iprop(∃ f, ((d, bufAt d i cc0_scratch1) : Loc nD τ sig) ↦{fullShare} f) := by
  unfold raw; rw [show bZ.view.set = Finset.univ from View.set_whole _]; rfl
theorem raw_inA : raw (F := F) (thr d i) inA = iprop(∃ f, ((d, bufAt d i cc0_scratch2) : Loc nD τ sig) ↦{fullShare} f) := by
  unfold raw; rw [show inA.view.set = Finset.univ from View.set_whole _]; rfl
theorem raw_inB : raw (F := F) (thr d i) inB = iprop(∃ f, ((d, bufAt d i cc0_scratch3) : Loc nD τ sig) ↦{fullShare} f) := by
  unfold raw; rw [show inB.view.set = Finset.univ from View.set_whole _]; rfl
theorem raw_outA : raw (F := F) (thr d i) outA = iprop(∃ f, ((d, bufAt d i cc0_scratch4) : Loc nD τ sig) ↦{fullShare} f) := by
  unfold raw; rw [show outA.view.set = Finset.univ from View.set_whole _]; rfl
theorem raw_outB : raw (F := F) (thr d i) outB = iprop(∃ f, ((d, bufAt d i cc0_scratch5) : Loc nD τ sig) ↦{fullShare} f) := by
  unfold raw; rw [show outB.view.set = Finset.univ from View.set_whole _]; rfl

theorem bufs_named : (bigSep (bufNames.map (bufAt d i)) fun b => (iprop(∃ f, ((d, b) : Loc nD τ sig) ↦{fullShare} f) : sProp 𝕄)) = scratch d i F := by
  rw [bigSep_map, SparseCore.bigSep_insert' (by decide), SparseCore.bigSep_insert' (by decide), SparseCore.bigSep_insert' (by decide),
    SparseCore.bigSep_insert' (by decide), SparseCore.bigSep_insert' (by decide), bigSep_singleton]
  unfold scratch
  rw [raw_bS, raw_bZ, raw_inA, raw_inB, raw_outA, raw_outB]

theorem bufs_out : (SparseCore.Cfg.ownBufs (thr d i) : sProp 𝕄)
    = iprop(scratch d i F ∗ bigSep (SparseCore.Cfg.ownRefs (τ := τ) (thr d i).2 \ bufNames.map (bufAt d i))
        fun b => iprop(∃ f, ((d, b) : Loc nD τ sig) ↦{fullShare} f)) := by
  unfold SparseCore.Cfg.ownBufs
  rw [SparseCore.bigSep_sdiff_split' (bufNames_own d i), bufs_named]

end Own

/-! ## What the handshakes carry -/

variable (X : Dev nD → S16384x4096.Idx → F .f32) (s0 z0 : Dev nD → S1.Idx → F .f32)

def coordsV (c : Fin (grid0.bound 0)) (s : Fin (grid0.bound 1)) : grid0.Coords :=
  fun | 0 => c | 1 => s | ⟨_ + 2, h⟩ => absurd h (Nat.not_lt.2 (Nat.le_add_left _ _))

/-- The tile's number, by which its rows are counted. -/
def num (c : Fin 2) (i : Fin 16) : Fin 32 := ⟨i.val * 2 + c.val, by omega⟩

/-- The tile's share of the parameters. -/
abbrev share (j : Fin 32) : PosShare TreeShare := Transfers.shareTok fullShare 32 j

/-- What tile `(c, i)` takes and what it brings back. -/
def takes (d : Dev nD) (c : Fin 2) (i : Fin 16) : sProp 𝕄 := given d (coordsV c i) (X d) (s0 d) (z0 d) (share (num c i))
def brings (d : Dev nD) (c : Fin 2) (i : Fin 16) : sProp 𝕄 := done d (coordsV c i) (X d) (s0 d) (z0 d) (share (num c i))

instance takes_storable (d : Dev nD) (c : Fin 2) (i : Fin 16) : BI.Storable (upEmb : UEmb _ 𝕄) (takes X s0 z0 d c i) := by
  unfold takes given param xPt oRaw; infer_instance
instance brings_storable (d : Dev nD) (c : Fin 2) (i : Fin 16) : BI.Storable (upEmb : UEmb _ 𝕄) (brings X s0 z0 d c i) := by
  unfold brings done param xPt oPt; infer_instance

def pay : (K (F := F)).Pay (nD := nD) (Val := Elt F) (Name := ℕ) (U := UU) where
  st := fun q d c => match q with | 0 => bigSep Finset.univ fun i : Fin 16 => takes X s0 z0 d c i
  dn := fun q d c => match q with | 0 => bigSep Finset.univ fun i : Fin 16 => brings X s0 z0 d c i
  go := fun q d c i => match q with | 0 => takes X s0 z0 d c i
  td := fun q d c i => match q with | 0 => brings X s0 z0 d c i
  x := fun _ _ => iprop(emp)

instance pay_storable : (pay X s0 z0).IsStorable where
  st q d c := match q with
    | 0 => (inferInstance : BI.Storable (upEmb : UEmb _ 𝕄) (bigSep Finset.univ fun i : Fin 16 => takes X s0 z0 d c i))
  dn q d c := match q with
    | 0 => (inferInstance : BI.Storable (upEmb : UEmb _ 𝕄) (bigSep Finset.univ fun i : Fin 16 => brings X s0 z0 d c i))
  go q d c i := match q with | 0 => (inferInstance : BI.Storable (upEmb : UEmb _ 𝕄) (takes X s0 z0 d c i))
  td q d c i := match q with | 0 => (inferInstance : BI.Storable (upEmb : UEmb _ 𝕄) (brings X s0 z0 d c i))

/-! ## The obligations -/

theorem body_eq (i : grid0.Coords) :
    cc0_k (F := F) i mx (Memref.isWhole_whole _) ms (Memref.isWhole_whole _) mz (Memref.isWhole_whole _) mo (Memref.isWhole_whole _)
      bS (Memref.isWhole_whole _) bZ (Memref.isWhole_whole _) inA (Memref.isWhole_whole _) inB (Memref.isWhole_whole _)
      outA (Memref.isWhole_whole _) outB (Memref.isWhole_whole _)
      cc0_scratch6 cc0_scratch7 cc0_scratch8 cc0_scratch9 cc0_scoped0 cc0_scoped1 = tile i := tile_eq i

theorem task_run (d : Dev nD) (i : grid0.Coords) (x : S16384x4096.Idx → F .f32) (s z : S1.Idx → F .f32) (q : PosShare TreeShare)
    (O : CellTallies nD τ sig (HIx 1)) (W : Waits sig (HIx 1)) (hO : ∀ g, O g none = 0) (r : Fin 1) :
    iprop(levAts (K (F := F)).L (K (F := F)).lev ∗ emp ∗ given d i x s z q
        ∗ scopedBufs (thr d i) ∗ scopedSems0 (thr d i) ∗ owes (thr d i) O W)
      ⊢ wp frame (wpE (defs₀ (F := F)) 𝒱₀ (thr d i) none) Set.univ (tile i)
          fun _ => iprop(done d i x s z q ∗ scopedBufs (thr d i) ∗ scopedSems0 (thr d i)
            ∗ ∃ W', ⌜∀ p ∈ W', p ∈ W ∨ p.2 = none ∨ p.2 = some r⌝ ∗ owes (thr d i) O W') := by
  rw [(K (F := F)).scopedBufs_V facts d ((i 0).castLE hcore0) ((i 1).castLE hsub0),
    SparseCore.Cfg.scopedSems0_V (Val := Elt F) d ((i 0).castLE hcore0) ((i 1).castLE hsub0), sems_out d i, bufs_out d i]
  iintro ⟨#Hlv, -, Hg, ⟨Hs, Hs'⟩, ⟨Hc, Hc'⟩, HO⟩
  ihave Hmw := (show levAts (K (F := F)).L (K (F := F)).lev ⊢ Transfers.MayWaits (thr d i) (default : HIx 1) O from
    (K (F := F)).mayWaits_none (thr := thr d i) hO) $$ Hlv
  iapply (wp_wand frame (wpE (defs₀ (F := F)) 𝒱₀ (thr d i) none) Set.univ) $$ [Hg Hs Hc HO Hmw]
  · iapply (tile_wp d i x s z O W q)
    isplitl [Hg]; · iexact Hg
    isplitl [Hs]; · iexact Hs
    isplitl [Hc]; · iexact Hc
    unfold ow
    isplitl [Hmw]; · iexact Hmw
    iexists W; isplitr
    · ipureintro; exact fun p hp => .inl hp
    · iexact HO
  iintro %_ ⟨Hd, Hs, Hc, HO⟩
  isplitl [Hd]; · iexact Hd
  isplitl [Hs Hs']
  · isplitl [Hs] <;> iassumption
  isplitl [Hc Hc']
  · isplitl [Hc] <;> iassumption
  unfold ow
  icases HO with ⟨-, %W', %h, HO⟩
  iexists W'; isplitr
  · ipureintro; exact fun p hp => (h p hp).imp_right .inl
  · iexact HO

theorem defs₀_vector (c : Fin τ.nSC) (s : Fin τ.nSub) :
    defs₀ (F := F) (.scVector c s) 0 ()
      = SparseCore.onTile hcore0 hsub0 (fun c s => cc0_k (coordsV c s) mx (Memref.isWhole_whole _) ms (Memref.isWhole_whole _)
          mz (Memref.isWhole_whole _) mo (Memref.isWhole_whole _)
          bS (Memref.isWhole_whole _) bZ (Memref.isWhole_whole _) inA (Memref.isWhole_whole _) inB (Memref.isWhole_whole _)
          outA (Memref.isWhole_whole _) outB (Memref.isWhole_whole _)
          cc0_scratch6 cc0_scratch7 cc0_scratch8 cc0_scratch9 cc0_scoped0 cc0_scoped1) ⟨⟩ c s := rfl

set_option maxRecDepth 16384 in
theorem task : (K (F := F)).TileObl (D (F := F)) 𝒱 (pay X s0 z0) v₀ 0 := by
  intro d c i O W hO _ _
  simp only [show (pay X s0 z0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [body_eq]
  exact task_run d (coordsV ⟨_, hci.1⟩ ⟨_, hci.2⟩) (X d) (s0 d) (z0 d) (share (num c i)) O W hO 0

theorem deal : (K (F := F)).VecSplit' (pay X s0 z0) 0 := by
  intro d c
  show (bigSep Finset.univ fun i : Fin 16 => takes X s0 z0 d c i) ⊢ |={Set.univ}=> iprop(
      (bigSep Finset.univ fun i : Fin 16 => takes X s0 z0 d c i)
      ∗ ((bigSep Finset.univ fun i : Fin 16 => brings X s0 z0 d c i) -∗ bigSep Finset.univ fun i : Fin 16 => brings X s0 z0 d c i))
  iintro H; imodintro
  isplitl [H]; · iexact H
  iintro H; iexact H

end Cert.Proof.Quant
-- ==== Proof.Operands.lean ====
/-
  The operands of the SparseCore's call, dealt to its 32 tiles and taken back. The operand and the result go by ranges of
  224 rows, the two parameters by read shares. `operands_in` and `operands_out` are the two directions; between them the
  TensorCore keeps the operand's first 9216 rows and a share of each parameter (`kept`).
-/
module

public import proofs.«01_k».proof.Proof.Tasks
@[expose] public section

noncomputable section

namespace Cert.Proof.Quant

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The tiles, numbered -/

def tiles : Fin 2 × Fin 16 ≃ Fin 32 := (Equiv.prodComm (Fin 2) (Fin 16)).trans finProdFinEquiv

theorem tiles_eq (c : Fin 2) (i : Fin 16) : tiles (c, i) = num c i := by
  apply Fin.ext
  show c.val + 2 * i.val = i.val * 2 + c.val
  omega

/-- Something of every numbered tile, as something of every tile of each SparseCore. -/
theorem by_core (Φ : Fin 32 → sProp 𝕄) :
    bigSep Finset.univ Φ = bigSep Finset.univ fun c : Fin 2 => bigSep Finset.univ fun i : Fin 16 => Φ (num c i) := by
  rw [bigSep_univ_equiv tiles, bigSep_univ_prod]
  simp only [tiles_eq]

theorem eq_of_both {P Q : sProp 𝕄} (h : P ⊣⊢ Q) : P = Q := BI.equiv_iff.mp ⟨h.1, h.2⟩

/-! ## Rows -/

theorem xRows_all : (Finset.univ : Finset S16384x4096.Idx)
    = xRows 0 9216 ∪ (Finset.univ : Finset (Fin 32)).biUnion fun j => xRows (9216 + j.val * 224) (9216 + j.val * 224 + 224) := by
  ext y
  have hy : (y 0).val < 16384 := (y 0).isLt
  simp only [Finset.mem_univ, true_iff, Finset.mem_union, Finset.mem_biUnion, mem_xRows, true_and]
  by_cases h : (y 0).val < 9216
  · exact Or.inl ⟨Nat.zero_le _, h⟩
  · exact Or.inr ⟨⟨((y 0).val - 9216) / 224, by omega⟩, by dsimp only; omega, by dsimp only; omega⟩

theorem oRows_all : (Finset.univ : Finset S7168x4096.Idx)
    = (Finset.univ : Finset (Fin 32)).biUnion fun j => oRows (j.val * 224) (j.val * 224 + 224) := by
  ext y
  have hy : (y 0).val < 7168 := (y 0).isLt
  simp only [Finset.mem_univ, true_iff, Finset.mem_biUnion, mem_oRows, true_and]
  exact ⟨⟨(y 0).val / 224, by omega⟩, by dsimp only; omega, by dsimp only; omega⟩

theorem xRows_apart (a b : Fin 32) (h : a ≠ b) :
    Disjoint (xRows (9216 + a.val * 224) (9216 + a.val * 224 + 224)) (xRows (9216 + b.val * 224) (9216 + b.val * 224 + 224)) := by
  rcases Nat.lt_or_gt_of_ne (fun e => h (Fin.ext e)) with h | h
  · exact xRows_disjoint (by omega)
  · exact (xRows_disjoint (by omega)).symm

theorem oRows_apart (a b : Fin 32) (h : a ≠ b) : Disjoint (oRows (a.val * 224) (a.val * 224 + 224)) (oRows (b.val * 224) (b.val * 224 + 224)) := by
  rcases Nat.lt_or_gt_of_ne (fun e => h (Fin.ext e)) with h | h
  · exact oRows_disjoint (by omega)
  · exact (oRows_disjoint (by omega)).symm

variable (d : Dev nD) (X : S16384x4096.Idx → F .f32) (s0 z0 : S1.Idx → F .f32)

/-! ## The arrays -/

abbrev lX : Loc nD τ sig := (T d : Thread nD τ).loc main_v0
abbrev lO : Loc nD τ sig := (T d : Thread nD τ).loc main_v1
abbrev lS : Loc nD τ sig := (T d : Thread nD τ).loc main_arg1
abbrev lZ : Loc nD τ sig := (T d : Thread nD τ).loc main_arg2

theorem x_dealt : (lX d ↦{fullShare} X : sProp 𝕄)
    = iprop((lX d ↦[xRows 0 9216]{fullShare} X) ∗ bigSep Finset.univ fun c : Fin 2 => bigSep Finset.univ fun i : Fin 16 =>
        xPt d (coordsV c i) X (9216 + base (coordsV c i)) (9216 + base (coordsV c i) + 224)) := by
  show (lX d ↦[(Finset.univ : Finset S16384x4096.Idx)]{fullShare} X : sProp 𝕄) = _
  rw [xRows_all]
  refine (eq_of_both (pointsTo_union ?_)).trans ?_
  · rw [Finset.disjoint_biUnion_right]
    exact fun j _ => xRows_disjoint (by omega)
  · rw [pointsTo_biUnion _ _ (fun a _ b _ h => xRows_apart a b h), by_core]
    rfl

theorem o_dealt (f : S7168x4096.Idx → F .f32) : (lO d ↦{fullShare} f : sProp 𝕄)
    = bigSep Finset.univ fun c : Fin 2 => bigSep Finset.univ fun i : Fin 16 =>
        (mo.view.loc (thr d (coordsV c i)) ↦[oRows (base (coordsV c i)) (base (coordsV c i) + 224)]{fullShare} f : sProp 𝕄) := by
  show (lO d ↦[(Finset.univ : Finset S7168x4096.Idx)]{fullShare} f : sProp 𝕄) = _
  rw [oRows_all, pointsTo_biUnion _ _ (fun a _ b _ h => oRows_apart a b h), by_core]
  rfl

theorem s_dealt (f : S1.Idx → F .f32) : (lS d ↦{fullShare} f : sProp 𝕄)
    = iprop((lS d ↦{Transfers.shareDrop fullShare 32} f) ∗ bigSep Finset.univ fun c : Fin 2 => bigSep Finset.univ fun i : Fin 16 =>
        param d (coordsV c i) ms (share (num c i)) f) := by
  refine (eq_of_both (Transfers.pointsTo_toks fullShare 32)).trans ?_
  rw [by_core]
  unfold param
  simp only [Memref.view_whole, View.set_whole]

theorem z_dealt (f : S1.Idx → F .f32) : (lZ d ↦{fullShare} f : sProp 𝕄)
    = iprop((lZ d ↦{Transfers.shareDrop fullShare 32} f) ∗ bigSep Finset.univ fun c : Fin 2 => bigSep Finset.univ fun i : Fin 16 =>
        param d (coordsV c i) mz (share (num c i)) f) := by
  refine (eq_of_both (Transfers.pointsTo_toks fullShare 32)).trans ?_
  rw [by_core]
  unfold param
  simp only [Memref.view_whole, View.set_whole]

theorem o_forget (f : S7168x4096.Idx → F .f32) :
    (bigSep Finset.univ fun c : Fin 2 => bigSep Finset.univ fun i : Fin 16 =>
        (mo.view.loc (thr d (coordsV c i)) ↦[oRows (base (coordsV c i)) (base (coordsV c i) + 224)]{fullShare} f : sProp 𝕄))
      ⊢ (bigSep Finset.univ fun c : Fin 2 => bigSep Finset.univ fun i : Fin 16 =>
          oRaw d (coordsV c i) F (base (coordsV c i)) (base (coordsV c i) + 224) : sProp 𝕄) := by
  refine bigSep_mono fun c _ => bigSep_mono fun i _ => ?_
  show (mo.view.loc (thr d (coordsV c i)) ↦[oRows (base (coordsV c i)) (base (coordsV c i) + 224)]{fullShare} f : sProp 𝕄)
    ⊢ oRaw d (coordsV c i) F (base (coordsV c i)) (base (coordsV c i) + 224)
  unfold oRaw
  iintro H; iexists f; iexact H

/-! ## In and out -/

/-- What the TensorCore keeps during the call. -/
def kept : sProp 𝕄 :=
  iprop((lX d ↦[xRows 0 9216]{fullShare} X) ∗ (lS d ↦{Transfers.shareDrop fullShare 32} s0) ∗ (lZ d ↦{Transfers.shareDrop fullShare 32} z0))

theorem bigSep₂_sep (Φ Ψ : Fin 2 → Fin 16 → sProp 𝕄) :
    (bigSep Finset.univ fun c => bigSep Finset.univ fun i => iprop(Φ c i ∗ Ψ c i))
      = iprop((bigSep Finset.univ fun c => bigSep Finset.univ fun i => Φ c i) ∗ bigSep Finset.univ fun c => bigSep Finset.univ fun i => Ψ c i) := by
  rw [← bigSep_sep']
  exact bigSep_congr fun c _ => bigSep_sep' _ _ _

theorem takes_eq (c : Fin 2) (i : Fin 16) (X : Dev nD → S16384x4096.Idx → F .f32) (s0 z0 : Dev nD → S1.Idx → F .f32) :
    takes X s0 z0 d c i = iprop(param d (coordsV c i) ms (share (num c i)) (s0 d) ∗ param d (coordsV c i) mz (share (num c i)) (z0 d)
      ∗ xPt d (coordsV c i) (X d) (9216 + base (coordsV c i)) (9216 + base (coordsV c i) + 224)
      ∗ oRaw d (coordsV c i) F (base (coordsV c i)) (base (coordsV c i) + 224)) := rfl

theorem brings_eq (c : Fin 2) (i : Fin 16) (X : Dev nD → S16384x4096.Idx → F .f32) (s0 z0 : Dev nD → S1.Idx → F .f32) :
    brings X s0 z0 d c i = iprop(param d (coordsV c i) ms (share (num c i)) (s0 d) ∗ param d (coordsV c i) mz (share (num c i)) (z0 d)
      ∗ xPt d (coordsV c i) (X d) (9216 + base (coordsV c i)) (9216 + base (coordsV c i) + 224)
      ∗ (mo.view.loc (thr d (coordsV c i)) ↦[oRows (base (coordsV c i)) (base (coordsV c i) + 224)]{fullShare}
          out (s0 d at0) (inv (s0 d at0)) (z0 d at0) (X d))) := rfl

theorem operands_in (X : Dev nD → S16384x4096.Idx → F .f32) (s0 z0 : Dev nD → S1.Idx → F .f32) (f : S7168x4096.Idx → F .f32) :
    iprop((lX d ↦{fullShare} X d) ∗ (lS d ↦{fullShare} s0 d) ∗ (lZ d ↦{fullShare} z0 d) ∗ (lO d ↦{fullShare} f))
      ⊢ (iprop((bigSep Finset.univ fun c : Fin ((K (F := F)).nCore 0) => (pay X s0 z0).st 0 d c) ∗ kept d (X d) (s0 d) (z0 d)) : sProp 𝕄) := by
  show _ ⊢ iprop((bigSep Finset.univ fun c : Fin 2 => bigSep Finset.univ fun i : Fin 16 => takes X s0 z0 d c i) ∗ kept d (X d) (s0 d) (z0 d))
  simp only [takes_eq, bigSep₂_sep]
  rw [x_dealt, s_dealt, z_dealt, o_dealt]
  unfold kept
  iintro ⟨⟨Hx, Hxs⟩, ⟨Hs, Hss⟩, ⟨Hz, Hzs⟩, Ho⟩
  isplitl [Hxs Hss Hzs Ho]
  · isplitl [Hss]; · iexact Hss
    isplitl [Hzs]; · iexact Hzs
    isplitl [Hxs]; · iexact Hxs
    iapply (o_forget d f)
    iexact Ho
  isplitl [Hx]; · iexact Hx
  isplitl [Hs] <;> iassumption

theorem operands_out (X : Dev nD → S16384x4096.Idx → F .f32) (s0 z0 : Dev nD → S1.Idx → F .f32) :
    iprop((bigSep Finset.univ fun c : Fin ((K (F := F)).nCore 0) => (pay X s0 z0).dn 0 d c) ∗ kept d (X d) (s0 d) (z0 d))
      ⊢ (iprop((lX d ↦{fullShare} X d) ∗ (lS d ↦{fullShare} s0 d) ∗ (lZ d ↦{fullShare} z0 d)
          ∗ (lO d ↦{fullShare} out (s0 d at0) (inv (s0 d at0)) (z0 d at0) (X d))) : sProp 𝕄) := by
  show iprop((bigSep Finset.univ fun c : Fin 2 => bigSep Finset.univ fun i : Fin 16 => brings X s0 z0 d c i) ∗ kept d (X d) (s0 d) (z0 d)) ⊢ _
  simp only [brings_eq, bigSep₂_sep]
  rw [x_dealt, s_dealt, z_dealt, o_dealt]
  unfold kept
  iintro ⟨⟨Hss, Hzs, Hxs, Ho⟩, Hx, Hs, Hz⟩
  isplitl [Hx Hxs]; · isplitl [Hx] <;> iassumption
  isplitl [Hs Hss]; · isplitl [Hs] <;> iassumption
  isplitl [Hz Hzs]; · isplitl [Hz] <;> iassumption
  iexact Ho

end Cert.Proof.Quant
-- ==== Proof.Block.lean ====
/-
  The TensorCore kernel's body run on one block. `block_wp`: from the two parameters and a block of the operand in their
  staging buffers, the result's staging buffer ends at the block quantised element by element.
-/
module

public import proofs.«01_k».proof.Proof.Tile
public import proofs.«01_k».proof.Proof.Gen.KernelIdeal.Launch
public import proofs.«01_k».proof.Proof.Gen.KernelIdeal.Points
public import Idealize.ShloMosaic.Lib.Pipeline.Value
public import Idealize.ShloMosaic.Lib.Pipeline.Regions
public import Idealize.ShloMosaic.Lib.WritesUnit
@[expose] public section

noncomputable section

namespace Cert.Proof.Quant

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- One element quantised, as the TensorCore does it. -/
def tcOf (s z x : F .f32) : F .f32 :=
  FloatOps.mulf (FloatOps.addf (FloatOps.roundeven (FloatOps.subf (FloatOps.mulf s x) z)) z) (FloatOps.scalar.divf (FloatOps.ofBits .f32 0x3F800000#32) s)

/-- A buffer of the TensorCore's seen through a memref, whole. -/
abbrev pt (c : Dev nD) {sp : Space} {s : Shape} {e : EltTy} (M : Memref sig .tc sp s e) (f : Buf (Elt F) (M.view.loc (T c : Thread nD τ))) : sProp 𝕄 :=
  M.view.loc (T c) ↦{fullShare} f

theorem block_wp (c : Dev nD) (i : grid1.Coords) (M1 : Memref sig .tc .smem S1 .f32) (h1 : M1.IsWhole) (M2 : Memref sig .tc .smem S1 .f32) (h2 : M2.IsWhole)
    (M3 : Memref sig .tc .vmem S512x4096 .f32) (h3 : M3.IsWhole) (M4 : Memref sig .tc .vmem S512x4096 .f32) (h4 : M4.IsWhole)
    (f1 : Buf (Elt F) (M1.view.loc (T c : Thread nD τ))) (f2 : Buf (Elt F) (M2.view.loc (T c : Thread nD τ)))
    (f3 : Buf (Elt F) (M3.view.loc (T c : Thread nD τ))) (f4 : Buf (Elt F) (M4.view.loc (T c : Thread nD τ))) :
    iprop(pt c M1 f1 ∗ pt c M2 f2 ∗ pt c M3 f3 ∗ pt c M4 f4)
      ⊢ wp frame (wpE (defs₀ (F := F)) 𝒱₀ (T c) none) Set.univ (cc1__tc_block i M1 h1 M2 h2 M3 h3 M4 h4) fun _ =>
        iprop(pt c M1 f1 ∗ pt c M2 f2 ∗ pt c M3 f3 ∗ ∃ f, pt c M4 f
          ∗ ⌜M4.view.read (Elt F) f = fun j => tcOf (M1.view.read (Elt F) f1 at0) (M2.view.read (Elt F) f2 at0) (M3.view.read (Elt F) f3 j)⌝) := by
  unfold cc1__tc_block
  iintro ⟨H1, H2, H3, H4⟩
  sl_exec!
  sl_step
  isplitl [H1]; · iexact H1
  isplitl [H2]; · iexact H2
  isplitl [H3]; · iexact H3
  iexists _
  isplitl [H4]; · iexact H4
  ipureintro
  unfold block_wp.sl.H4_1
  funext j
  refine (View.read_writes_cons_unit_of_mem (s := S512x4096) (e := .f32) _ _ inb_S512x4096_S512x4096_0_0 _ [] j j rfl
    (fun a => by fin_cases a <;> exact (Nat.zero_add _).symm)).trans ?_
  unfold block_wp.sl.v13 block_wp.sl.v12 block_wp.sl.v11 block_wp.sl.v9 block_wp.sl.v8 block_wp.sl.v7 block_wp.sl.v6 block_wp.sl.v5 block_wp.sl.v2
  have e1 : block_wp.sl.r c M1 f1 = M1.view.read (Elt F) f1 at0 := by
    unfold block_wp.sl.r
    exact congrArg (M1.view.read (Elt F) f1) (funext fun a => by fin_cases a; rfl)
  have e2 : block_wp.sl.r_1 c M2 f2 = M2.view.read (Elt F) f2 at0 := by
    unfold block_wp.sl.r_1
    exact congrArg (M2.view.read (Elt F) f2) (funext fun a => by fin_cases a; rfl)
  have e3 : block_wp.sl.v4 c M3 f3 j = M3.view.read (Elt F) f3 j := by
    unfold block_wp.sl.v4
    rw [shapeCast_self]
    exact congrArg (M3.view.read (Elt F) f3) (funext fun a => Fin.ext (by fin_cases a <;> simp))
  rw [← e1, ← e2, ← e3]
  unfold block_wp.sl.cst tcOf
  generalize block_wp.sl.r c M1 f1 = s
  generalize block_wp.sl.r_1 c M2 f2 = z
  generalize block_wp.sl.v4 c M3 f3 = x
  simp only [mulf, addf, roundeven, subf, broadcast, Scalar.divf]

end Cert.Proof.Quant
-- ==== Proof.Region.lean ====
/-
  The TensorCore's call as a region of the host program. `region`: from every array of the TensorCore's at contents `V`, it
  ends with the result's array at the first 9216 rows of the operand quantised, and every other array as it was.
-/
module

public import proofs.«01_k».proof.Proof.Block
public import Idealize.ShloMosaic.Lib.Pipeline.ValueKit.Geometry
public import Idealize.ShloMosaic.Lib.Pipeline.RegionsLoop
@[expose] public section

noncomputable section

namespace Cert.Proof.Quant

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.TcCoe
open Idealize.ShloMosaic.Pipeline (Dat)

/-! ## What the call computes -/

/-- A row of the result as a row of the operand. -/
def low (y : S9216x4096.Idx) : S16384x4096.Idx := fun
  | 0 => ⟨(y 0).val, lt_trans (y 0).isLt (by decide)⟩
  | 1 => ⟨(y 1).val, (y 1).isLt⟩
  | ⟨_ + 2, h⟩ => absurd h (Nat.not_lt.2 (Nat.le_add_left _ _))

/-- The result's array. -/
def tcOut (s z : F .f32) (X : S16384x4096.Idx → F .f32) (y : S9216x4096.Idx) : F .f32 := tcOf s z (X (low y))

/-! ## The pipeline's data -/

section Data

variable (V : (c : Dev nD) → (b : Ref sig .tc) → Buf (Elt F) ((T c : Thread nD τ).loc b))

/-- A window's block of its array. -/
abbrev blkS (c : Dev nD) (t : Fin cfg1.N) : (cfg1.win 0).block.Idx → Elt F (cfg1.win 0).elt := ((cfg1.win 0).blk t).view.read (Elt F) (V c main_arg1)
abbrev blkZ (c : Dev nD) (t : Fin cfg1.N) : (cfg1.win 1).block.Idx → Elt F (cfg1.win 1).elt := ((cfg1.win 1).blk t).view.read (Elt F) (V c main_arg2)
abbrev blkX (c : Dev nD) (t : Fin cfg1.N) : (cfg1.win 2).block.Idx → Elt F (cfg1.win 2).elt := ((cfg1.win 2).blk t).view.read (Elt F) (V c main_v0)

/-- What the recorded waits are within: the levels of the one SparseCore call. -/
abbrev within (c : Dev nD) : Set (SemLoc sig × HIx 1) := {p | (K (F := F)).lev ((T c, p.1) : GSem nD τ sig) p.2 ≤ 8}

def dat (c : Dev nD) : Dat τ (Elt F) (HIx 1) ℕ UU ℕ cfg1 c where
  A w := V c (Pipeline.arrRef spec1 w)
  after w t := match w with
    | ⟨0, _⟩ => blkS V c t
    | ⟨1, _⟩ => blkZ V c t
    | ⟨2, _⟩ => blkX V c t
    | ⟨3, _⟩ => fun j => tcOf (blkS V c t at0) (blkZ V c t at0) (blkX V c t j)
  Φ _ := BI.emp
  q _ := fullShare
  owed _ := 0
  recorded _ := within (F := F) c

theorem before_0 (c : Dev nD) (t : Fin cfg1.N) (d) : (dat V c).before 0 t d = blkS V c t :=
  (dat V c).before_in_eq_fetched 0 rfl (fun _ => rfl) (fun _ _ _ => rfl) (fun _ => rfl) t d

theorem before_1 (c : Dev nD) (t : Fin cfg1.N) (d) : (dat V c).before 1 t d = blkZ V c t :=
  (dat V c).before_in_eq_fetched 1 rfl (fun _ => rfl) (fun _ _ _ => rfl) (fun _ => rfl) t d

theorem before_2 (c : Dev nD) (t : Fin cfg1.N) (d) : (dat V c).before 2 t d = blkX V c t :=
  (dat V c).before_in_eq_fetched 2 rfl (fun _ => rfl) (fun _ _ _ => rfl) (fun _ => rfl) t d

/-- A whole memref owned at contents is its buffer held at something that reads so. -/
theorem owns_pt (c : Dev nD) {sp : Space} {s : Shape} {e : EltTy} (M : Memref sig .tc sp s e) (h : M.IsWhole) (X : s.Idx → Elt F e) :
    (owns (T c : Thread nD τ) M fullShare X : sProp 𝕄) = iprop(∃ f, ⌜M.view.read (Elt F) f = X⌝ ∗ pt c M f) := by
  obtain ⟨b, hsp, hsh, he, h⟩ := h
  subst hsp hsh he
  cases h
  unfold owns
  simp only [Memref.view_whole, View.set_whole]

theorem body_obligation (c : Dev nD) : Pipeline.BodyObligation (dat V c) (defs₀ (F := F)) 𝒱₀ none Set.univ := fun t => by
  rw [bigSep_W1, bigSep_W1]
  rw [show (dat V c).Φ t.castSucc = BI.emp from rfl, show (dat V c).Φ t.succ = BI.emp from rfl,
    show (dat V c).owesAt none t.succ = (dat V c).owesAt none t.castSucc from rfl]
  dsimp only
  rw [show defs₀ (F := F) .tc cfg1.body (cfg1.bodyArgs t (cfg1.slots t)) = bodyAt1 t from rfl]
  iintro ⟨-, Howes, ⟨%d0, H0⟩, ⟨%d1, H1⟩, ⟨%d2, H2⟩, ⟨%d3, H3⟩⟩
  ihave H0 := (Entails.of_eq (owns_pt c (st1_0 t) (stage_whole1 0 _) _)) $$ H0
  icases H0 with ⟨%f0, %e0, H0⟩
  ihave H1 := (Entails.of_eq (owns_pt c (st1_1 t) (stage_whole1 1 _) _)) $$ H1
  icases H1 with ⟨%f1, %e1, H1⟩
  ihave H2 := (Entails.of_eq (owns_pt c (st1_2 t) (stage_whole1 2 _) _)) $$ H2
  icases H2 with ⟨%f2, %e2, H2⟩
  ihave H3 := (Entails.of_eq (owns_pt c (st1_3 t) (stage_whole1 3 _) _)) $$ H3
  icases H3 with ⟨%f3, -, H3⟩
  rw [before_0] at e0; rw [before_1] at e1; rw [before_2] at e2
  iapply (wp_wand_r frame (wpE (defs₀ (F := F)) 𝒱₀ (T c : Thread nD τ) none) Set.univ)
  isplitl [H0 H1 H2 H3]
  · iapply (block_wp c (grid1.coords t) (st1_0 t) (stage_whole1 0 _) (st1_1 t) (stage_whole1 1 _) (st1_2 t) (stage_whole1 2 _) (st1_3 t) (stage_whole1 3 _) f0 f1 f2 f3)
    isplitl [H0]; · iexact H0
    isplitl [H1]; · iexact H1
    isplitl [H2]; · iexact H2
    iexact H3
  iintro %_ ⟨H0, H1, H2, %f, H3, %e3⟩
  isplitr; · iempintro
  isplitl [Howes]; · iexact Howes
  isplitl [H0]
  · iapply (Entails.of_eq (owns_pt c (st1_0 t) (stage_whole1 0 _) _).symm); iexists f0; isplitr; · ipureintro; exact e0
    iexact H0
  isplitl [H1]
  · iapply (Entails.of_eq (owns_pt c (st1_1 t) (stage_whole1 1 _) _).symm); iexists f1; isplitr; · ipureintro; exact e1
    iexact H1
  isplitl [H2]
  · iapply (Entails.of_eq (owns_pt c (st1_2 t) (stage_whole1 2 _) _).symm); iexists f2; isplitr; · ipureintro; exact e2
    iexact H2
  iapply (Entails.of_eq (owns_pt c (st1_3 t) (stage_whole1 3 _) _).symm)
  iexists f; isplitr
  · ipureintro; rw [e3, e0, e1, e2]; rfl
  iexact H3

/-! ## The result's array -/

theorem index_2 : ∀ t : Fin cfg1.N, win1_2.index t = ![(grid1.coords t 0).val, 0] := (by decide +kernel : ∀ t : Fin grid1.N, _)
theorem index_3 : ∀ t : Fin cfg1.N, win1_3.index t = ![(grid1.coords t 0).val, 0] := (by decide +kernel : ∀ t : Fin grid1.N, _)

theorem emb_at0 (t : Fin cfg1.N) : ((cfg1.win 0).blk t).view.emb at0 = at0 := by
  funext a; fin_cases a; exact Subsingleton.elim (α := Fin 1) _ _
theorem emb_at1 (t : Fin cfg1.N) : ((cfg1.win 1).blk t).view.emb at0 = at0 := by
  funext a; fin_cases a; exact Subsingleton.elim (α := Fin 1) _ _

theorem emb_low (t : Fin cfg1.N) (y : S512x4096.Idx) : ((cfg1.win 2).blk t).view.emb y = low (((cfg1.win 3).blk t).view.emb y) := by
  refine Shape.idx_ext₂ ?_ ?_
  · show (((cfg1.win 2).blk t).view.emb y 0 : ℕ) = (((cfg1.win 3).blk t).view.emb y 0 : ℕ)
    blk_simp [index_2, index_3]
  · show (((cfg1.win 2).blk t).view.emb y 1 : ℕ) = (((cfg1.win 3).blk t).view.emb y 1 : ℕ)
    blk_simp [index_2, index_3]

theorem tcOut_eq (c : Dev nD) : (dat V c).arrAt 3 cfg1.N = tcOut (V c main_arg1 at0) (V c main_arg2 at0) (V c main_v0) := by
  refine (dat V c).arrAt_eq_of_covers 3 _ (by decide +kernel) fun t hf y => ?_
  blk_simp
  show tcOf (V c main_arg1 (((cfg1.win 0).blk t).view.emb at0)) (V c main_arg2 (((cfg1.win 1).blk t).view.emb at0)) (V c main_v0 (((cfg1.win 2).blk t).view.emb y))
    = tcOf _ _ (V c main_v0 (low (((cfg1.win 3).blk t).view.emb y)))
  rw [emb_at0, emb_at1, emb_low]

end Data

/-! ## The region -/

/-- The unscoped buffers of the TensorCore. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (T c : Thread nD τ) ucRefs W := by
  unfold unscopedBufs StableHlo.held ucRefs StableHlo.tcRefs
  rw [Finset.filter_map, bigSep_map]
  rfl

abbrev adm : (p : Fin 1) → (pcfgs (F := F) p).Adm := fun p => (cfgs p).toPCfg_adm

section Region

variable (V V' : (c : Dev nD) → (b : Ref sig .tc) → Buf (Elt F) ((T c : Thread nD τ).loc b))

def dats : (p : Fin 1) → (c : Dev nD) → Dat τ (Elt F) (HIx 1) ℕ UU ℕ (Pipeline.pin (pcfgs (F := F)) adm p) c
  | ⟨0, _⟩ => fun c => dat V c

/-- Nothing owed, every recorded wait within the call's levels. -/
abbrev settled (c : Dev nD) : sProp 𝕄 := iprop(∃ W, ⌜(K (F := F)).WBelow (T c) W 8⌝ ∗ owes (T c : Thread nD τ) (0 : CellTallies nD τ sig (HIx 1)) W)

set_option backward.isDefEq.respectTransparency.types false in
def region (hout : ∀ c, V' c main_v2 = tcOut (V c main_arg1 at0) (V c main_arg2 at0) (V c main_v0))
    (hne : ∀ c (b : Ref sig .tc), b ≠ main_v2 → V' c b = V c b) :
    Pipeline.RegionSeg (pcfgs (F := F)) adm (dats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ settled c)
  post c := iprop(unscopedBufs c (V' c) ∗ settled c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (dats V) launch1.win launch1.arr_whole c
      ((dats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (dats V 0 c).Φ 0 = BI.emp from rfl, scopedRest1_eq]
    iintro -; iempintro
  hout c := by
    rw [Pipeline.ownSems0_none, show (dats V 0 c).Φ (Fin.last _) = BI.emp from rfl, scopedRest1_eq]
    iintro -
    isplitr; · iempintro
    isplitr <;> iempintro
  hexit c := by
    have hjoin := Pipeline.unscopedBufs_of_arrays (p := 0) (pcfgs (F := F)) adm (Ix := HIx 1) (Name := ℕ) (U := UU) (Lvl := ℕ) launch1.win launch1.arr_whole c
      (dats V) ((dats V 0 c).share_full fun _ => rfl) (V c) (V' c) ((dats V 0 c).arrAt · cfg1.N)
      (fun w => by
        fin_cases w
        · exact ((dats V 0 c).arrAt_in 0 rfl _).trans (hne c main_arg1 (by decide)).symm
        · exact ((dats V 0 c).arrAt_in 1 rfl _).trans (hne c main_arg2 (by decide)).symm
        · exact ((dats V 0 c).arrAt_in 2 rfl _).trans (hne c main_v0 (by decide)).symm
        · exact (tcOut_eq V c).trans (hout c).symm)
      (fun b hb => hne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, h⟩
      · exact h
      · rw [h]; exact Nat.zero_le _
    iexact HO

end Region

end Cert.Proof.Quant
-- ==== Proof.Main.lean ====
/-
  The program's run. `hmain` runs @main on one TensorCore: the operand reshaped, the SparseCore's call, the TensorCore's
  call, the two results put together and reshaped; its arrays go through the contents `W0` … `W5`. `run_main` is the whole
  launch: it ends with every array of the TensorCore's at `W5` and every semaphore at zero.
-/
module

public import proofs.«01_k».proof.Proof.Operands
public import proofs.«01_k».proof.Proof.Region
@[expose] public section

noncomputable section

namespace Cert.Proof.Quant

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.TcCoe
open Idealize.ShloMosaic.StableHlo (held held_split held_sdiff_result wp_hlo_within)

variable (m : (ℓ : Loc nD τ sig) → Buf (Elt F) ℓ) (ρ : Dev nD → PrngReg)

/-! ## The arrays, step by step -/

abbrev devRef (b : Ref sig .tc) : DevRef τ sig := Proc.devRef .tc b

abbrev opIn : HloOp τ sig (Elt F) := StableHlo.reshape main_arg0 main_v0 (rfl : (.f32 : EltTy) = .f32) shapeCasts_S2x8192x4096_S16384x4096
abbrev opJoin : HloOp τ sig (Elt F) := StableHlo.binary main_v2 main_v1 main_v3
  ((fun a b => concatenate S16384x4096 0 [⟨S9216x4096, a⟩, ⟨S7168x4096, b⟩] concatenates_S9216x4096_S7168x4096_S16384x4096_d0) :
    (⟨S9216x4096, .f32⟩ : BufTy).Contents (Elt F) → (⟨S7168x4096, .f32⟩ : BufTy).Contents (Elt F) → (⟨S16384x4096, .f32⟩ : BufTy).Contents (Elt F))
abbrev opOut : HloOp τ sig (Elt F) := StableHlo.reshape main_v3 main_v4 (rfl : (.f32 : EltTy) = .f32) shapeCasts_S16384x4096_S2x8192x4096

/-- At the launch. -/
def W0 (d : Dev nD) : Valuation τ sig (Elt F) := fun b => m (d, b)
/-- The operand reshaped. -/
def W1 (d : Dev nD) : Valuation τ sig (Elt F) := (opIn (F := F)).result (W0 m d)

/-- What both calls read: the operand, the scale and the zero point. -/
def argX (d : Dev nD) : S16384x4096.Idx → F .f32 := W1 m d (devRef main_v0)
def argS (d : Dev nD) : S1.Idx → F .f32 := W1 m d (devRef main_arg1)
def argZ (d : Dev nD) : S1.Idx → F .f32 := W1 m d (devRef main_arg2)

/-- The SparseCore's rows and the TensorCore's rows. -/
def scOut (d : Dev nD) : S7168x4096.Idx → F .f32 := out (argS m d at0) (inv (argS m d at0)) (argZ m d at0) (argX m d)
def tcRes (d : Dev nD) : S9216x4096.Idx → F .f32 := tcOut (argS m d at0) (argZ m d at0) (argX m d)

/-- After the SparseCore's call, -/
def W2 (d : Dev nD) : Valuation τ sig (Elt F) := Function.update (W1 m d) (devRef main_v1) (scOut m d)
/-- after the TensorCore's, -/
def W3 (d : Dev nD) : Valuation τ sig (Elt F) := Function.update (W2 m d) (devRef main_v2) (tcRes m d)
/-- the two put together, -/
def W4 (d : Dev nD) : Valuation τ sig (Elt F) := (opJoin (F := F)).result (W3 m d)
/-- and reshaped. -/
def W5 (d : Dev nD) : Valuation τ sig (Elt F) := (opOut (F := F)).result (W4 m d)

/-! ## The SparseCore call's operands among the arrays -/

abbrev others : Finset (DevRef τ sig) := {devRef main_arg0, devRef main_v2, devRef main_v3, devRef main_v4}

theorem ucRefs_eq : ucRefs = insert (devRef main_v0) (insert (devRef main_arg1) (insert (devRef main_arg2) (insert (devRef main_v1) others))) := by
  decide

theorem held_parts (d : Dev nD) (W : Valuation τ sig (Elt F)) : (held (T d) ucRefs W : sProp 𝕄)
    = iprop((lX d ↦{fullShare} W (devRef main_v0)) ∗ (lS d ↦{fullShare} W (devRef main_arg1)) ∗ (lZ d ↦{fullShare} W (devRef main_arg2))
        ∗ (lO d ↦{fullShare} W (devRef main_v1)) ∗ held (T d) others W) := by
  rw [ucRefs_eq]
  unfold held
  rw [SparseCore.bigSep_insert' (by decide), SparseCore.bigSep_insert' (by decide), SparseCore.bigSep_insert' (by decide), SparseCore.bigSep_insert' (by decide)]

theorem held_W2 (d : Dev nD) : (held (T d) ucRefs (W2 m d) : sProp 𝕄)
    = iprop((lX d ↦{fullShare} argX m d) ∗ (lS d ↦{fullShare} argS m d) ∗ (lZ d ↦{fullShare} argZ m d)
        ∗ (lO d ↦{fullShare} scOut m d) ∗ held (T d) others (W1 m d)) := by
  rw [held_parts]
  have hn : ∀ b ∈ others, b ≠ devRef main_v1 := by decide
  have ho : (held (T d) others (W2 m d) : sProp 𝕄) = held (T d) others (W1 m d) := by
    unfold held
    exact bigSep_congr fun b hb => by unfold W2; rw [Function.update_of_ne (hn b hb)]
  rw [ho]
  unfold W2
  rw [Function.update_self, Function.update_of_ne (by decide), Function.update_of_ne (by decide), Function.update_of_ne (by decide)]
  rfl

/-! ## The TensorCore's call among the arrays -/

abbrev U (d : Dev nD) (b : Ref sig .tc) : Buf (Elt F) ((T d : Thread nD τ).loc b) := W2 m d b
abbrev U' (d : Dev nD) (b : Ref sig .tc) : Buf (Elt F) ((T d : Thread nD τ).loc b) := W3 m d b

theorem U_ne (d : Dev nD) (b : Ref sig .tc) (h : b ≠ main_v2) : U' m d b = U m d b := by
  unfold U' W3
  exact Function.update_of_ne (fun e => h (Proc.devRef_injective _ e)) _ _

theorem U_out (d : Dev nD) : U' m d main_v2 = tcOut (U m d main_arg1 at0) (U m d main_arg2 at0) (U m d main_v0) := by
  have h0 : U m d main_v0 = argX m d := by unfold U W2; exact Function.update_of_ne (by decide) _ _
  have h1 : U m d main_arg1 = argS m d := by unfold U W2; exact Function.update_of_ne (by decide) _ _
  have h2 : U m d main_arg2 = argZ m d := by unfold U W2; exact Function.update_of_ne (by decide) _ _
  rw [h0, h1, h2]
  unfold U' W3
  exact Function.update_self _ _ _

/-- The TensorCore's pipeline at the start: its cells and the tokens of its copies. -/
abbrev G (F : FTy → Type) [FloatOps F] (d : Dev nD) : sProp (MT nD τ sig (HIx 1) (Elt F) ℕ UU ℕ) :=
  iprop(Pipeline.cellsGhost (Pipeline.pin (pcfgs (F := F)) adm) (EP (F := F)) 0 d ∗ Pipeline.toksInit (Pipeline.pin (pcfgs (F := F)) adm) (EP (F := F)) 0 d)

theorem entry_wp (d : Dev nD) (k : PUnit → Prog (TpuEff nD τ sig (Elt F) (ΛP (F := F)) .tc) PUnit) (Q : PUnit → sProp 𝕄) :
    iprop((iprop(boundary (T d : Thread nD τ) ∗ unscopedBufs d (U' m d) ∗ settled d) -∗ wp frame (wpE (D (F := F)) 𝒱 (T d) none) Set.univ (k ⟨⟩) Q)
        ∗ boundary (T d : Thread nD τ) ∗ (unscopedBufs d (U m d) ∗ settled d) ∗ levAts (K (F := F)).L (K (F := F)).lev ∗ G F d)
      ⊢ wp frame (wpE (D (F := F)) 𝒱 (T d) none) Set.univ (.op (.customCall (Pipeline.entry 0) ()) k) Q :=
  Pipeline.RegionSeg.wp (pcfgs (F := F)) adm (dats (U m)) none cellOf_inj (EP (F := F)) defs₀ 𝒱₀ (K (F := F)).L (K (F := F)).lev
    (region (U m) (U' m) (U_out m) (U_ne m)) d none (fun _ h => nomatch h) k Q

/-- The call as the pipeline's own program. -/
def callTc : Prog (TpuEff nD τ sig (Elt F) (ΛP (F := F)) .tc) PUnit := .op (.customCall (Pipeline.entry 0) ()) .ret

theorem call_eq : (Prog.lift (.customCall (SparseCore.inner (Pipeline.entry 0)) ()) :
    Prog (TpuEff nD τ sig (Elt F) (SparseCore.Sig (ΛP (F := F)) 1) .tc) PUnit) = SparseCore.liftProg (callTc (F := F)) := rfl

theorem call_wp (d : Dev nD) (Q : PUnit → sProp 𝕄) :
    iprop((iprop(boundary (T d : Thread nD τ) ∗ held (T d) ucRefs (W3 m d) ∗ settled d) -∗ Q ⟨⟩)
        ∗ boundary (T d : Thread nD τ) ∗ held (T d) ucRefs (W2 m d) ∗ settled d ∗ levAts (K (F := F)).L (K (F := F)).lev ∗ G F d)
      ⊢ wp frame (wpE ((K (F := F)).defs (D (F := F))) 𝒱 (SparseCore.T d) none) Set.univ
          (Prog.lift (.customCall (SparseCore.inner (Pipeline.entry 0)) ())) Q := by
  rw [call_eq]
  refine BI.Entails.trans (show _ ⊢ iprop((iprop(boundary (T d : Thread nD τ) ∗ unscopedBufs d (U' m d) ∗ settled d)
        -∗ wp frame (wpE (D (F := F)) 𝒱 (T d) none) Set.univ (Prog.ret ⟨⟩) Q)
      ∗ boundary (T d : Thread nD τ) ∗ (unscopedBufs d (U m d) ∗ settled d) ∗ levAts (K (F := F)).L (K (F := F)).lev ∗ G F d) from ?_)
    ((entry_wp m d .ret Q).trans ((K (F := F)).wp_liftProg (D (F := F)) 𝒱 (T d) Set.univ none (callTc (F := F)) Q))
  rw [← unscopedBufs_held, ← unscopedBufs_held]
  iintro ⟨Hk, Hb, Hh, HO, Hlev, Hg, Ht⟩
  isplitl [Hk]
  · iintro H
    rw [wp_ret]; imodintro
    iapply Hk; iexact H
  isplitl [Hb]; · iexact Hb
  isplitl [Hh HO]; · isplitl [Hh] <;> iassumption
  isplitl [Hlev]; · iexact Hlev
  isplitl [Hg] <;> iassumption

/-! ## @main on the TensorCore -/

/-- After the one SparseCore call the TensorCore owes nothing; what it owes can be taken out and put back. -/
theorem tcSt_settled (d : Dev nD) : ((K (F := F)).tcSt EH d ((0 : Fin 1).val + 1) : sProp 𝕄) ⊢ iprop(settled d ∗ (settled d -∗ (K (F := F)).tcSt EH d 1)) := by
  show ((K (F := F)).tcSt EH d 1 : sProp 𝕄) ⊢ _
  unfold SparseCore.Cfg.tcSt
  rw [(K (F := F)).Otc_end d (le_refl 1)]
  iintro ⟨HO, Hr⟩
  isplitl [HO]; · iexact HO
  iintro HO
  isplitl [HO]; · iexact HO
  iexact Hr

theorem hIn : (opIn (F := F)).bufs ⊆ ucRefs := show ({devRef main_arg0, devRef main_v0} : Finset (DevRef τ sig)) ⊆ ucRefs by decide
theorem hJoin : (opJoin (F := F)).bufs ⊆ ucRefs := show ({devRef main_v2, devRef main_v1, devRef main_v3} : Finset (DevRef τ sig)) ⊆ ucRefs by decide
theorem hOut : (opOut (F := F)).bufs ⊆ ucRefs := show ({devRef main_v3, devRef main_v4} : Finset (DevRef τ sig)) ⊆ ucRefs by decide

/-- What the tiles take and bring back, in this program. -/
abbrev P : (K (F := F)).Pay (nD := nD) (Val := Elt F) (Name := ℕ) (U := UU) := pay (argX m) (argS m) (argZ m)

/-- What @main leaves. -/
abbrev FIN (d : Dev nD) : sProp 𝕄 := held (T d) ucRefs (W5 m d)

theorem hmain (κ : GSem nD τ sig → ℕ) (d : Dev nD) :
    iprop((K (F := F)).ctx EH (P m) κ ∗ (K (F := F)).tcSt EH d 0 ∗ (K (F := F)).tcRes m ρ d ∗ G F d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) ucRefs (W0 m d) from unscopedBufs_held d (W0 m d)]
  simp only [main, wp_bind, wp_pure]
  iintro ⟨#Hctx, Hst, ⟨Hb, Hh, Hts, -⟩, HG⟩
  iapply (wp_hlo_within 𝒱 (SparseCore.T d) none Set.univ (op := opIn) (S := ucRefs) hIn (V := W0 m d)) $$ [Hb Hh]
  · isplitl [Hb] <;> iassumption
  iintro ⟨Hb, Hh⟩
  rw [wp_ret]; imodintro
  ihave Hh := (Entails.of_eq (show (held (T d) ucRefs ((opIn (F := F)).result (W0 m d)) : sProp 𝕄) = _ from held_parts d (W1 m d))) $$ Hh
  icases Hh with ⟨Hx, Hs, Hz, Ho, Hr⟩
  ihave Hop := (operands_in d (argX m) (argS m) (argZ m) (W1 m d (devRef main_v1))) $$ [Hx Hs Hz Ho]
  · isplitl [Hx]; · iexact Hx
    isplitl [Hs]; · iexact Hs
    isplitl [Hz]; · iexact Hz
    iexact Ho
  icases Hop with ⟨Hop, Hkept⟩
  iapply ((K (F := F)).wp_run (D (F := F)) 𝒱 (EH := EH) (P := P m) κ d 0) $$ [Hst Hop Hb Hr Hts HG Hkept]
  isplitr; · iexact Hctx
  isplitl [Hst]; · iexact Hst
  isplitl [Hop]; · iexact Hop
  iintro ⟨Hst, Hdn⟩
  ihave Hop := (operands_out d (argX m) (argS m) (argZ m)) $$ [Hdn Hkept]
  · isplitl [Hdn] <;> iassumption
  icases Hop with ⟨Hx, Hs, Hz, Ho⟩
  ihave Hst := (tcSt_settled d) $$ Hst
  icases Hst with ⟨HO, Hst⟩
  ihave Hlev := (SparseCore.Cfg.ctx_levAts κ) $$ Hctx
  iapply (call_wp m d) $$ [Hb Hx Hs Hz Ho Hr HO Hst Hts HG Hlev]
  isplitr [Hb Hx Hs Hz Ho Hr HO HG Hlev]
  · iintro ⟨Hb, Hh, HO⟩
    iapply (wp_hlo_within 𝒱 (SparseCore.T d) none Set.univ (op := opJoin) (S := ucRefs) hJoin (V := W3 m d)) $$ [Hb Hh]
    · isplitl [Hb] <;> iassumption
    iintro ⟨Hb, Hh⟩
    rw [wp_ret]; imodintro
    ihave Hh := (Entails.of_eq (show (held (T d) ucRefs ((opJoin (F := F)).result (W3 m d)) : sProp 𝕄) = held (T d) ucRefs (W4 m d) from rfl)) $$ Hh
    iapply (wp_hlo_within 𝒱 (SparseCore.T d) none Set.univ (op := opOut) (S := ucRefs) hOut (V := W4 m d)) $$ [Hb Hh]
    · isplitl [Hb] <;> iassumption
    iintro ⟨Hb, Hh⟩
    rw [wp_ret]; imodintro; imodintro
    isplitl [HO Hst]; · iapply Hst; iexact HO
    isplitl [Hh]; · iexact Hh
    isplitl [Hb] <;> iassumption
  isplitl [Hb]; · iexact Hb
  isplitl [Hx Hs Hz Ho Hr]
  · iapply (Entails.of_eq (held_W2 m d).symm)
    isplitl [Hx]; · iexact Hx
    isplitl [Hs]; · iexact Hs
    isplitl [Hz]; · iexact Hz
    isplitl [Ho]; · iexact Ho
    iexact Hr
  isplitl [HO]; · iexact HO
  isplitl [Hlev]; · iexact Hlev
  iexact HG

/-! ## The launch's ghost state -/

def u₀ : UU := (initOf (K (F := F)).hsCells (K (F := F)).hsToks, (initOf (Pipeline.cells cfgs cellOf_inj) (Pipeline.launchToks cfgs cellOf_inj), 1))

theorem bigSep_emp' {I : Type} (s : Finset I) : (bigSep s fun _ => iprop(emp)) = (iprop(emp) : sProp 𝕄) := bigSep_emp_const s

/-- The pipeline's ghost state by device, of the one pipeline there is. -/
theorem ghost_eq : iprop((bigSep Finset.univ fun d : Dev nD => bigSep Finset.univ fun p : Fin 1 => Pipeline.cellsGhost cfgs (EP (F := F)) p d)
    ∗ (bigSep Finset.univ fun d : Dev nD => bigSep Finset.univ fun p : Fin 1 => Pipeline.toksInit cfgs (EP (F := F)) p d))
      = (bigSep Finset.univ fun d : Dev nD => G F d : sProp 𝕄) := by
  rw [bigSep_sep', show (bigSep Finset.univ fun d : Dev nD => bigSep Finset.univ fun p : Fin 1 => Pipeline.cellsGhost cfgs (EP (F := F)) p d)
      = bigSep Finset.univ fun d : Dev nD => Pipeline.cellsGhost cfgs (EP (F := F)) 0 d from bigSep_congr fun d _ => bigSep_univ_of_subsingleton (0 : Fin 1),
    show (bigSep Finset.univ fun d : Dev nD => bigSep Finset.univ fun p : Fin 1 => Pipeline.toksInit cfgs (EP (F := F)) p d)
      = bigSep Finset.univ fun d : Dev nD => Pipeline.toksInit cfgs (EP (F := F)) 0 d from bigSep_congr fun d _ => bigSep_univ_of_subsingleton (0 : Fin 1)]

theorem hu₀ : (ownU (u₀ (F := F)) : sProp 𝕄)
    ⊢ |={Set.univ}=> iprop(BI.own (EH (initOf (K (F := F)).hsCells (K (F := F)).hsToks)) ∗ (bigSep Finset.univ fun d : Dev nD => G F d)
        ∗ bigSep Finset.univ fun thr : Thread nD τ => bigSep Finset.univ fun q : Fin 1 => (P m).x q thr) := by
  unfold u₀
  iintro Hu
  ihave H := (ownU_pair (initOf (K (F := F)).hsCells (K (F := F)).hsToks) ((initOf (Pipeline.cells cfgs cellOf_inj) (Pipeline.launchToks cfgs cellOf_inj), 1) : UP × Counters)) $$ Hu
  icases H with ⟨HH, HP⟩
  ihave H := (own_pair_emb embR (initOf (Pipeline.cells cfgs cellOf_inj) (Pipeline.launchToks cfgs cellOf_inj)) (1 : Counters)) $$ HP
  icases H with ⟨HP, -⟩
  ihave HP := (Entails.of_eq (show BI.own (((Emb.inl : Emb UP (UP × Counters)).trans (embR : Emb (UP × Counters) 𝕄)) (initOf (Pipeline.cells cfgs cellOf_inj) (Pipeline.launchToks cfgs cellOf_inj)))
    = BI.own (EP (F := F) (initOf (Pipeline.cells cfgs cellOf_inj) (Pipeline.launchToks cfgs cellOf_inj))) from rfl)) $$ HP
  ihave H := (Pipeline.fund_ghost cfgs (EP (F := F)) cellOf_inj) $$ HP
  imod H with ⟨Hc, Ht⟩
  imodintro
  isplitl [HH]; · iexact HH
  isplitl [Hc Ht]
  · iapply (Entails.of_eq (ghost_eq (F := F)))
    isplitl [Hc] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The launch -/

def fq (d : Dev nD) (s' : Phys nD τ sig (Elt F)) : Prop := ∀ b ∈ ucRefs, s'.mem.mem (d, b) = W5 m d b

theorem hfin (d : Dev nD) (s' : Phys nD τ sig (Elt F)) : iprop(FIN m d ∗ SI s') ⊢ (⌜fq m d s'⌝ : sProp 𝕄) := by
  refine (pointsTo_read_all ucRefs (fun b => ((d, b) : Loc nD τ sig)) (fun b => W5 m d b) s').trans ?_
  iintro ⟨%h, -⟩
  ipureintro; exact h

def QC : PUnit × MemSt nD τ sig (Elt F) → Prop := fun r => (∀ d : Dev nD, ∀ b ∈ ucRefs, r.2.mem (d, b) = W5 m d b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => task _ _ _)
    (fun q _ => match q with | 0 => SparseCore.Cfg.VecSplit.of_plain (deal _ _ _))
    m ρ main (G F) (FIN m) (u₀ (F := F)) (sep_elim_left.trans (hu₀ m)) (hmain m ρ) (fq m) (hfin m) (QC m) (fun _ h hz => ⟨h, hz⟩)

end Cert.Proof.Quant
-- ==== Proof.Value.lean ====
/-
  What the run leaves, read off. `kept0` … `kept2`: the three arguments end as they began. `result_at`: an element of the
  result is the SparseCore's or the TensorCore's formula of the same element of the operand, by its row. Over the extended
  reals, where the scale is not zero, both formulas are the reference's (`sc_elt`, `tc_elt`).
-/
module

public import proofs.«01_k».proof.Proof.Main
@[expose] public section

noncomputable section

namespace Cert.Proof.Quant

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.TcCoe

variable (m : (ℓ : Loc nD τ sig) → Buf (Elt F) ℓ)

/-! ## The arguments -/

theorem W3_ne (d : Dev nD) (b : DevRef τ sig) (h1 : b ≠ devRef main_v1) (h2 : b ≠ devRef main_v2) : W3 m d b = W1 m d b := by
  unfold W3 W2; rw [Function.update_of_ne h2, Function.update_of_ne h1]

theorem W1_ne (d : Dev nD) (b : DevRef τ sig) (h : b ∉ (opIn (F := F)).writes) : W1 m d b = m (d, b) := by
  unfold W1; rw [HloOp.result_of_not_mem _ _ h]; rfl

theorem W5_ne (d : Dev nD) (b : DevRef τ sig) (h3 : b ∉ (opJoin (F := F)).writes) (h4 : b ∉ (opOut (F := F)).writes) : W5 m d b = W3 m d b := by
  unfold W5 W4; rw [HloOp.result_of_not_mem _ _ h4, HloOp.result_of_not_mem _ _ h3]

theorem arg_kept (d : Dev nD) (b : DevRef τ sig) (h0 : b ≠ devRef main_v0) (h1 : b ≠ devRef main_v1) (h2 : b ≠ devRef main_v2)
    (h3 : b ≠ devRef main_v3) (h4 : b ≠ devRef main_v4) : W5 m d b = m (d, b) := by
  rw [W5_ne m d b (fun h => h3 (Finset.mem_singleton.mp h)) (fun h => h4 (Finset.mem_singleton.mp h)), W3_ne m d b h1 h2,
    W1_ne m d b (fun h => h0 (Finset.mem_singleton.mp h))]

theorem kept0 (d : Dev nD) : W5 m d (devRef main_arg0) = m (d, devRef main_arg0) := arg_kept m d _ (by decide) (by decide) (by decide) (by decide) (by decide)
theorem kept1 (d : Dev nD) : W5 m d (devRef main_arg1) = m (d, devRef main_arg1) := arg_kept m d _ (by decide) (by decide) (by decide) (by decide) (by decide)
theorem kept2 (d : Dev nD) : W5 m d (devRef main_arg2) = m (d, devRef main_arg2) := arg_kept m d _ (by decide) (by decide) (by decide) (by decide) (by decide)

/-! ## The result -/

/-- The program's three arguments. -/
def inX (d : Dev nD) : S2x8192x4096.Idx → F .f32 := m (d, devRef main_arg0)
def inS (d : Dev nD) : F .f32 := (m (d, devRef main_arg1) : S1.Idx → F .f32) at0
def inZ (d : Dev nD) : F .f32 := (m (d, devRef main_arg2) : S1.Idx → F .f32) at0

theorem argX_eq (d : Dev nD) : argX m d = shapeCast S16384x4096 (inX m d) shapeCasts_S2x8192x4096_S16384x4096 := by
  unfold argX W1
  exact StableHlo.reshape_result _ _ _ _ _ _ _

theorem argS_eq (d : Dev nD) : argS m d at0 = inS m d := by
  unfold argS; rw [W1_ne m d _ (fun h => absurd (Finset.mem_singleton.mp h) (by decide))]; rfl

theorem argZ_eq (d : Dev nD) : argZ m d at0 = inZ m d := by
  unfold argZ; rw [W1_ne m d _ (fun h => absurd (Finset.mem_singleton.mp h) (by decide))]; rfl

/-- The two calls' rows, the TensorCore's first. -/
def joined (d : Dev nD) : S16384x4096.Idx → F .f32 :=
  concatenate S16384x4096 0 [⟨S9216x4096, tcRes m d⟩, ⟨S7168x4096, scOut m d⟩] concatenates_S9216x4096_S7168x4096_S16384x4096_d0

theorem W4_eq (d : Dev nD) : W4 m d (devRef main_v3) = joined m d := by
  unfold W4
  refine (StableHlo.binary_result _ _ _ _ _ _ _ _).trans ?_
  have e2 : W3 m d (devRef main_v2) = tcRes m d := by unfold W3; exact Function.update_self _ _ _
  have e1 : W3 m d (devRef main_v1) = scOut m d := by
    unfold W3; rw [Function.update_of_ne (by decide)]; unfold W2; exact Function.update_self _ _ _
  rw [e1, e2]; rfl

theorem W5_eq (d : Dev nD) : W5 m d (devRef main_v4) = shapeCast S2x8192x4096 (joined m d) shapeCasts_S16384x4096_S2x8192x4096 := by
  unfold W5
  refine (StableHlo.reshape_result _ _ _ _ _ _ _).trans ?_
  rw [W4_eq]; rfl

/-- A row below 9216 is the TensorCore's. -/
theorem joined_low (d : Dev nD) (y : S16384x4096.Idx) (h : (y 0).val < 9216) : joined m d y = tcOf (inS m d) (inZ m d) (argX m d y) := by
  unfold joined
  refine (concatenate_pair_apply_left (s₁ := S9216x4096) (s₂ := S7168x4096) 0 _ _ _ y rfl
    (fun | 0 => ⟨(y 0).val, h⟩ | 1 => ⟨(y 1).val, (y 1).isLt⟩) (fun | 0 => rfl | 1 => rfl)).trans ?_
  unfold tcRes tcOut
  rw [argS_eq, argZ_eq]
  exact congrArg (fun i => tcOf _ _ (argX m d i)) (Shape.idx_ext₂ rfl rfl)

/-- A row from 9216 on is the SparseCore's. -/
theorem joined_up (d : Dev nD) (y : S16384x4096.Idx) (h : 9216 ≤ (y 0).val) :
    joined m d y = quant (inS m d) (inv (inS m d)) (inZ m d) (argX m d y) := by
  unfold joined
  have hy : (y 0).val < 16384 := (y 0).isLt
  refine (concatenate_pair_apply_right (s₁ := S9216x4096) (s₂ := S7168x4096) 0 _ _ _ y rfl rfl
    (fun | 0 => ⟨(y 0).val - 9216, by show _ < 7168; omega⟩ | 1 => ⟨(y 1).val, (y 1).isLt⟩)
    (fun | 0 => fun hb => absurd rfl hb | 1 => fun _ => rfl) (by show (y 0).val - 9216 + 9216 = (y 0).val; omega)).trans ?_
  unfold scOut out
  rw [argS_eq, argZ_eq]
  exact congrArg (fun i => quant _ _ _ (argX m d i)) (Shape.idx_ext₂ (by show 9216 + ((y 0).val - 9216) = (y 0).val; omega) rfl)

/-- What every row is, the result is. -/
theorem result_at (d : Dev nD) (f : F .f32 → F .f32) (hsc : ∀ x, quant (inS m d) (inv (inS m d)) (inZ m d) x = f x)
    (htc : ∀ x, tcOf (inS m d) (inZ m d) x = f x) : W5 m d (devRef main_v4) = fun j => f (inX m d j) := by
  have hj : joined m d = fun y => f (argX m d y) := by
    funext y
    by_cases h : (y 0).val < 9216
    · rw [joined_low m d y h, htc]
    · rw [joined_up m d y (Nat.le_of_not_lt h), hsc]
  rw [W5_eq, hj, argX_eq]
  funext j
  show f (inX m d (Shape.reshapeEquiv _ (Shape.reshapeEquiv _ j))) = f (inX m d j)
  rw [Shape.reshapeEquiv_reshapeEquiv, Shape.reshapeEquiv_self]

/-! ## Over the extended reals -/

/-- The reference's formula of one element. -/
def refOf (s z x : EReal) : EReal := Ideal.div (Ideal.liftRound Ideal.roundHalfEven (s * x - z) + z) s

theorem one_f32 : (FloatOps.ofBits .f32 0x3F800000#32 : Ideal .f32) = (1 : EReal) := by
  show Ideal.ofBits .f32 0x3F800000#32 = 1
  simp [Ideal.ofBits, Ideal.ieee]
  rw [← EReal.coe_mul]; norm_num

/-- Off zero, a quotient is a product by the reciprocal. -/
theorem mul_recip {s : EReal} (h : s ≠ 0) (a : EReal) : a * Ideal.div 1 s = Ideal.div a s := by
  unfold Ideal.div; rw [if_neg h, if_neg h, one_mul]

theorem tc_elt {s : EReal} (h : s ≠ 0) (z x : EReal) : tcOf (F := Ideal) s z x = refOf s z x := by
  show (Ideal.liftRound Ideal.roundHalfEven (s * x - z) + z) * Ideal.div (FloatOps.ofBits .f32 0x3F800000#32 : Ideal .f32) s = refOf s z x
  rw [one_f32]; exact mul_recip h _

theorem sc_elt {s : EReal} (h : s ≠ 0) (z x : EReal) : quant (F := Ideal) s (inv (F := Ideal) s) z x = refOf s z x := by
  show (Ideal.liftRound Ideal.roundHalfEven (x * s - z) + z) * Ideal.div (FloatOps.ofBits .f32 0x3F800000#32 : Ideal .f32) s = refOf s z x
  rw [one_f32, mul_comm x s]; exact mul_recip h _

end Cert.Proof.Quant
-- ==== Proof.Reference.lean ====
/-
  The reference program's run, its result read element by element: `refOf` of the scale, the zero point and the operand's
  element. It declares no semaphore.
-/
module

public import proofs.«01_k».proof.Proof.Value
public import proofs.«01_k».proof.Proof.Gen.ReferenceIdeal.Run

@[expose] public section

noncomputable section

namespace Cert.Proof.Quant.Ref

open Cert.ReferenceIdeal Cert.ReferenceIdeal.Gen Idealize.ShloMosaic Idealize.SL.Sem

/-- The one element of a length-one array, wherever it is read after two broadcasts. -/
theorem spread {α : Type} (v : S1.Idx → α) (j : S2x8192x4096.Idx) :
    broadcastInDim S2x8192x4096 ![0, 1, 2] bcast_S1x1x1_S2x8192x4096_0_1_2 (broadcastInDim S1x1x1 ![2] bcast_S1_S1x1x1_2 v) j = v at0 := by
  unfold broadcastInDim
  exact congrArg v (funext fun a => match a with | 0 => Fin.ext (Nat.lt_one_iff.mp (Fin.isLt _)))

variable (m : (ℓ : Loc nD τ sig) → Buf (Elt Ideal) ℓ) (ρ : Dev nD → PrngReg)

/-- The arguments of a device. -/
abbrev x (c : Dev nD) : S2x8192x4096.Idx → EReal := m ((c.tc : Thread nD τ).loc main_arg0)
abbrev s (c : Dev nD) : S1.Idx → EReal := m ((c.tc : Thread nD τ).loc main_arg1)
abbrev z (c : Dev nD) : S1.Idx → EReal := m ((c.tc : Thread nD τ).loc main_arg2)

theorem run_main : θ_run defs (onTc (τ := τ) (main (F := Ideal))) ⟨m, fun _ => 0, ρ⟩ fun r => (∀ c : Dev nD,
      r.2.mem ((c.tc : Thread nD τ).loc main_v12) = (fun j => refOf (s m c at0) (z m c at0) (x m c j))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 := by
  refine (θ_run defs _ _).mono (fun r h => ⟨fun c => ⟨(h c).1.trans (funext fun j => ?_), (h c).2⟩, sem_eq_zero_of_no_sems (by decide) r.2⟩)
    (Cert.ReferenceIdeal.Value.run (F := Ideal) m ρ)
  have hs := spread (s m c) j
  have hz := spread (z m c) j
  show Ideal.div (Ideal.liftRound Ideal.roundHalfEven (broadcastInDim S2x8192x4096 ![0, 1, 2] bcast_S1x1x1_S2x8192x4096_0_1_2 (broadcastInDim S1x1x1 ![2] bcast_S1_S1x1x1_2 (s m c)) j * x m c j
      - broadcastInDim S2x8192x4096 ![0, 1, 2] bcast_S1x1x1_S2x8192x4096_0_1_2 (broadcastInDim S1x1x1 ![2] bcast_S1_S1x1x1_2 (z m c)) j)
      + broadcastInDim S2x8192x4096 ![0, 1, 2] bcast_S1x1x1_S2x8192x4096_0_1_2 (broadcastInDim S1x1x1 ![2] bcast_S1_S1x1x1_2 (z m c)) j)
    (broadcastInDim S2x8192x4096 ![0, 1, 2] bcast_S1x1x1_S2x8192x4096_0_1_2 (broadcastInDim S1x1x1 ![2] bcast_S1_S1x1x1_2 (s m c)) j) = _
  rw [hs, hz]; rfl

end Cert.Proof.Quant.Ref

end
-- ==== Proof.Same.lean ====
/-
  The kernel and its reading over the extended reals are one text: at the machine's floats their bodies are the same.
-/
module

public import proofs.«01_k».proof.Defs
public import proofs.«01_k».proof.Proof.Gen.Kernel
public import proofs.«01_k».proof.Proof.Gen.KernelIdeal

@[expose] public section

noncomputable section

namespace Cert.Proof.Quant

open Idealize.ShloMosaic Idealize.SL.Sem

/-- Each processor's body of each call. -/
theorem bodies_eq : Cert.Kernel.defs₀ (F := Bits) = Cert.KernelIdeal.defs₀ (F := Bits) := by
  funext p ℓ a
  match p, ℓ, a with
  | .scVector c s, 0, _ => rfl
  | .tc, 1, (t, s) => rfl
  | .scScalar c, 0, _ => rfl
  | .scScalar c, 1, _ => rfl
  | .scVector c s, 1, _ => rfl
  | .tc, 0, _ => rfl

theorem defs_eq : Cert.Kernel.defs (F := Bits) = Cert.KernelIdeal.defs (F := Bits) :=
  congrArg (fun D => (Cert.KernelIdeal.sc (F := Bits)).defs (Pipeline.defs (Cert.KernelIdeal.pcfgs (F := Bits)) D)) bodies_eq

end Cert.Proof.Quant

end
-- ==== Proof.lean ====
/-
  The certificate. The whole-program run (Proof/Main.lean) is proved once, over any float values; both kernel frames are it
  read at the arguments and the counters. The result's elements (Proof/Value.lean) are the reference's (Proof/Reference.lean)
  over the extended reals where the scale is not zero.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Reference
public import proofs.«01_k».proof.Proof.Same

@[expose] public section

noncomputable section

namespace Cert.Proof

open Idealize.ShloMosaic Idealize.SL.Sem

/-- The precondition's one shape fact. -/
instance preFacts : Cert.Pre_nonzero_scale.Facts := ⟨by decide⟩

/-! ## The frames -/

section Kept

open Cert.KernelIdeal

variable {F : FTy → Type} [FloatOps F] [∀ e, Nonempty (Elt F e)] (m : (ℓ : Loc nD τ sig) → Buf (Elt F) ℓ) (ρ : Dev nD → PrngReg)

/-- The run read at the result, the arguments and the counters. -/
theorem run_read : θ_run (defs (F := F)) (threads (F := F)) ⟨m, fun _ => 0, ρ⟩ fun r =>
    (∀ c : Dev nD, r.2.mem ((c.tc : Thread nD τ).loc main_v4) = Quant.W5 m c (Quant.devRef main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun _ h => ⟨fun c => ⟨h.1 c (Quant.devRef main_v4) (by decide),
      (h.1 c (Quant.devRef main_arg0) (by decide)).trans (Quant.kept0 m c),
      (h.1 c (Quant.devRef main_arg1) (by decide)).trans (Quant.kept1 m c),
      (h.1 c (Quant.devRef main_arg2) (by decide)).trans (Quant.kept2 m c)⟩, h.2⟩)
    (Quant.run_main m ρ)

end Kept

theorem frame_ideal : Cert.quiescent_KernelIdeal := fun m ρ _ =>
  (θ_run Cert.KernelIdeal.defs _ _).mono (fun _ h => ⟨fun c => (h.1 c).2, h.2⟩) (run_read (F := Ideal) m ρ)

theorem frame_ideal_pre : Cert.quiescent_KernelIdeal_pre_nonzero_scale := fun m ρ _ => frame_ideal m ρ trivial

/-- The kernel at the machine's floats: the same text. -/
theorem frame_kernel : Cert.quiescent_Kernel := by
  intro m ρ _
  rw [Quant.defs_eq]
  exact (θ_run Cert.KernelIdeal.defs _ _).mono (fun _ h => ⟨fun c => (h.1 c).2, h.2⟩) (run_read (F := Bits) m ρ)

theorem frame_reference : Cert.quiescent_ReferenceIdeal := fun m ρ _ =>
  (θ_run Cert.ReferenceIdeal.defs _ _).mono (fun _ h => ⟨fun c => (h.1 c).2, h.2⟩) (Quant.Ref.run_main m ρ)

theorem frame_reference_pre : Cert.quiescent_ReferenceIdeal_pre_nonzero_scale := fun m ρ _ => frame_reference m ρ trivial

/-! ## The values -/

/-- The precondition says that the scale's one element is not zero. -/
theorem scale_ne (m : (ℓ : Loc Cert.KernelIdeal.nD Cert.KernelIdeal.τ Cert.KernelIdeal.sig) → Buf (Elt Ideal) ℓ)
    (h : Cert.Pre_KernelIdeal_nonzero_scale m) (c : Dev Cert.KernelIdeal.nD) : Quant.inS m c ≠ (0 : EReal) := by
  intro e
  have h1 := congrFun (h c) Quant.at0
  have h2 : Ideal.cmp .une (Quant.inS m c) (Ideal.ofBits .f32 0x00000000#32) = 1#1 := h1
  have hz : Ideal.ofBits .f32 0x00000000#32 = 0 := by simp [Ideal.ofBits, Ideal.ieee]
  rw [e, hz] at h2
  revert h2
  simp [Ideal.cmp]

theorem algebraic : Cert.algebraic_KernelIdeal_ReferenceIdeal_pre_nonzero_scale := by
  intro m ρ m' ρ' hp ha
  refine ⟨fun c => Quant.W5 m c (Quant.devRef Cert.KernelIdeal.main_v4),
    (θ_run Cert.KernelIdeal.defs _ _).mono (fun _ h c => h.1 c) (run_read (F := Ideal) m ρ),
    (θ_run Cert.ReferenceIdeal.defs _ _).mono (fun _ h c => ⟨(h.1 c).1.trans ?_, (h.1 c).2⟩) (Quant.Ref.run_main m' ρ')⟩
  have hs := scale_ne m hp c
  have hv := Quant.result_at (F := Ideal) m c (Quant.refOf (Quant.inS m c) (Quant.inZ m c)) (fun x => Quant.sc_elt hs _ x) (fun x => Quant.tc_elt hs _ x)
  refine Eq.trans ?_ hv.symm
  funext j
  have e0 : Quant.Ref.x m' c = Quant.inX m c := (ha c).1
  have e1 : Quant.Ref.s m' c Quant.at0 = Quant.inS m c := congrFun (ha c).2.1 Quant.at0
  have e2 : Quant.Ref.z m' c Quant.at0 = Quant.inZ m c := congrFun (ha c).2.2 Quant.at0
  rw [e0, e1, e2]

theorem claim : Cert.Claim := ⟨Cert.Kernel.Gen.facts, Cert.KernelIdeal.Gen.facts, Cert.ReferenceIdeal.Gen.facts, preFacts,
  frame_kernel, frame_ideal, frame_ideal_pre, frame_reference, frame_reference_pre, trivial, algebraic⟩

end Cert.Proof

end
